-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_matrix [hPre_finite_matrix : Cert.Pre_finite_matrix.Facts] (m : (ℓ : Loc Cert.KernelIdeal.nD Cert.KernelIdeal.τ Cert.KernelIdeal.sig) → Buf (Elt Ideal) ℓ) : Prop :=
  ∀ c : Dev Cert.KernelIdeal.nD,
    (Cert.Pre_finite_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_matrix [hPre_finite_matrix : Cert.Pre_finite_matrix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Scatter [hPre_stored_entries : Cert.Pre_stored_entries.Facts] (m : (ℓ : Loc Cert.Scatter.nD Cert.Scatter.τ Cert.Scatter.sig) → Buf (Elt Bits) ℓ) : Prop :=
  ∀ c : Dev Cert.Scatter.nD,
    (Cert.Pre_stored_entries.fn (F := Bits) (m ((c.tc : Thread Cert.Scatter.nD Cert.Scatter.τ).loc Cert.Scatter.main_arg0)) (m ((c.tc : Thread Cert.Scatter.nD Cert.Scatter.τ).loc Cert.Scatter.main_arg1)) (m ((c.tc : Thread Cert.Scatter.nD Cert.Scatter.τ).loc Cert.Scatter.main_arg2))) = (fun _ => 1#1)

def Pre_ScatterIdeal [hPre_stored_entries : Cert.Pre_stored_entries.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_stored_entries.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1)) (m ((c.tc : Thread Cert.ScatterIdeal.nD Cert.ScatterIdeal.τ).loc Cert.ScatterIdeal.main_arg2))) = (fun _ => 1#1)

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReferenceIdeal_stored_entries [hPre_stored_entries : Cert.Pre_stored_entries.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_stored_entries.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1)) (m ((c.tc : Thread Cert.ScatterReferenceIdeal.nD Cert.ScatterReferenceIdeal.τ).loc Cert.ScatterReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_matrix [hKernelIdeal : Cert.KernelIdeal.Facts] [hPre_finite_matrix : Cert.Pre_finite_matrix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_matrix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_matrix [hReferenceIdeal : Cert.ReferenceIdeal.Facts] [hPre_finite_matrix : Cert.Pre_finite_matrix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_matrix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scatter [hScatter : Cert.Scatter.Facts] [hPre_stored_entries : Cert.Pre_stored_entries.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2))
      ∧ r.2.sem = fun _ => 0)

def quiescent_ScatterIdeal [hScatterIdeal : Cert.ScatterIdeal.Facts] [hPre_stored_entries : Cert.Pre_stored_entries.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2))
      ∧ r.2.sem = fun _ => 0)

def quiescent_ScatterReferenceIdeal_pre_stored_entries [hScatterReferenceIdeal : Cert.ScatterReferenceIdeal.Facts] [hPre_stored_entries : Cert.Pre_stored_entries.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal_stored_entries m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2))
      ∧ r.2.sem = fun _ => 0)

def preserves_Kernel_KernelIdeal : Prop :=
  True

def algebraic_KernelIdeal_ReferenceIdeal_pre_finite_matrix [hKernelIdeal : Cert.KernelIdeal.Facts] [hReferenceIdeal : Cert.ReferenceIdeal.Facts] [hPre_finite_matrix : Cert.Pre_finite_matrix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_matrix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scatter_ScatterIdeal : Prop :=
  True

def algebraic_ScatterIdeal_ScatterReferenceIdeal [hScatterIdeal : Cert.ScatterIdeal.Facts] [hScatterReferenceIdeal : Cert.ScatterReferenceIdeal.Facts] [hPre_stored_entries : Cert.Pre_stored_entries.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)
      ∧ m' ((c.tc : Thread Cert.ScatterReferenceIdeal.nD Cert.ScatterReferenceIdeal.τ).loc Cert.ScatterReferenceIdeal.main_arg2) = m ((c.tc : Thread Cert.ScatterIdeal.nD Cert.ScatterIdeal.τ).loc Cert.ScatterIdeal.main_arg2)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v0) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v49) = v0 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1)
          ∧ r.2.mem ((c.tc : Thread Cert.ScatterReferenceIdeal.nD Cert.ScatterReferenceIdeal.τ).loc Cert.ScatterReferenceIdeal.main_arg2) = m' ((c.tc : Thread Cert.ScatterReferenceIdeal.nD Cert.ScatterReferenceIdeal.τ).loc Cert.ScatterReferenceIdeal.main_arg2))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hPre_finite_matrix : Cert.Pre_finite_matrix.Facts) (hPre_stored_entries : Cert.Pre_stored_entries.Facts),
    quiescent_Kernel (hKernel := hKernel)
    ∧ quiescent_KernelIdeal (hKernelIdeal := hKernelIdeal)
    ∧ quiescent_KernelIdeal_pre_finite_matrix (hKernelIdeal := hKernelIdeal) (hPre_finite_matrix := hPre_finite_matrix)
    ∧ quiescent_ReferenceIdeal (hReferenceIdeal := hReferenceIdeal)
    ∧ quiescent_ReferenceIdeal_pre_finite_matrix (hReferenceIdeal := hReferenceIdeal) (hPre_finite_matrix := hPre_finite_matrix)
    ∧ quiescent_Scatter (hScatter := hScatter) (hPre_stored_entries := hPre_stored_entries)
    ∧ quiescent_ScatterIdeal (hScatterIdeal := hScatterIdeal) (hPre_stored_entries := hPre_stored_entries)
    ∧ quiescent_ScatterReferenceIdeal (hScatterReferenceIdeal := hScatterReferenceIdeal)
    ∧ quiescent_ScatterReferenceIdeal_pre_stored_entries (hScatterReferenceIdeal := hScatterReferenceIdeal) (hPre_stored_entries := hPre_stored_entries)
    ∧ preserves_Kernel_KernelIdeal
    ∧ algebraic_KernelIdeal_ReferenceIdeal_pre_finite_matrix (hKernelIdeal := hKernelIdeal) (hReferenceIdeal := hReferenceIdeal) (hPre_finite_matrix := hPre_finite_matrix)
    ∧ preserves_Scatter_ScatterIdeal
    ∧ algebraic_ScatterIdeal_ScatterReferenceIdeal (hScatterIdeal := hScatterIdeal) (hScatterReferenceIdeal := hScatterReferenceIdeal) (hPre_stored_entries := hPre_stored_entries)
-- ==== Pre_finite_matrix.lean ====
abbrev S256x192 : Shape := ⟨2, ![256, 192]⟩
abbrev S320x256x128 : Shape := ⟨3, ![320, 256, 128]⟩
abbrev S256 : Shape := ⟨1, ![256]⟩
abbrev S_ : Shape := ⟨0, ![]⟩

class Facts : Prop where
  bcast_S_S320x256x128 : S_.BroadcastsInDim S320x256x128 (![] : Fin 0 → Fin S320x256x128.rank)
  reducesTo_S320x256x128_S_d0_1_2 : S320x256x128.ReducesTo [0, 1, 2] S_
  h_S_ : 0 < S_.numel

variable [Facts]

def fn {F : FTy → Type} [FloatOps F] (main_arg0 : FVec F S256x192 .bf16) (main_arg1 : FVec F S320x256x128 .f32) (main_arg2 : FVec F S256 .f32) : IVec S_ 1 :=
  let main_v0 : FVec F S320x256x128 .f32 := Host.absf main_arg1
  let main_cst : FVec F S_ .f32 := constant S_ .f32 0x7F800000#32
  let main_v1 : FVec F S320x256x128 .f32 := broadcastInDim S320x256x128 ![] bcast_S_S320x256x128 main_cst
  let main_v2 : IVec S320x256x128 1 := cmpf .olt main_v0 main_v1
  let main_c : IVec S_ 1 := constantI S_ 1 1#1
  let main_v3 : IVec S_ 1 := (fun x v => Host.reduce IntOp.andi x v reducesTo_S320x256x128_S_d0_1_2 h_S_) main_v2 main_c
  main_v3
-- ==== Pre_stored_entries.lean ====
abbrev S257 : Shape := ⟨1, ![257]⟩
abbrev S393216 : Shape := ⟨1, ![393216]⟩
abbrev S98304 : Shape := ⟨1, ![98304]⟩
abbrev S_ : Shape := ⟨0, ![]⟩

class Facts : Prop where
  bcast_S_S257 : S_.BroadcastsInDim S257 (![] : Fin 0 → Fin S257.rank)
  reducesTo_S257_S_d0 : S257.ReducesTo [0] S_
  h_S_ : 0 < S_.numel
  bcast_S_S393216 : S_.BroadcastsInDim S393216 (![] : Fin 0 → Fin S393216.rank)
  reducesTo_S393216_S_d0 : S393216.ReducesTo [0] S_

variable [Facts]

def fn {F : FTy → Type} [FloatOps F] (main_arg0 : IVec S257 32) (main_arg1 : IVec S393216 32) (main_arg2 : IVec S98304 32) : IVec S_ 1 :=
  let main_c : IVec S_ 32 := constantI S_ 32 0#32
  let main_v0 : IVec S257 32 := broadcastInDim S257 ![] bcast_S_S257 main_c
  let main_v1 : IVec S257 1 := cmpi .sge main_arg0 main_v0
  let main_c_0 : IVec S_ 32 := constantI S_ 32 393216#32
  let main_v2 : IVec S257 32 := broadcastInDim S257 ![] bcast_S_S257 main_c_0
  let main_v3 : IVec S257 1 := cmpi .sle main_arg0 main_v2
  let main_v4 : IVec S257 1 := andi main_v1 main_v3
  let main_c_1 : IVec S_ 1 := constantI S_ 1 1#1
  let main_v5 : IVec S_ 1 := (fun x v => Host.reduce IntOp.andi x v reducesTo_S257_S_d0 h_S_) main_v4 main_c_1
  let main_c_2 : IVec S_ 32 := constantI S_ 32 0#32
  let main_v6 : IVec S393216 32 := broadcastInDim S393216 ![] bcast_S_S393216 main_c_2
  let main_v7 : IVec S393216 1 := cmpi .sge main_arg1 main_v6
  let main_c_3 : IVec S_ 32 := constantI S_ 32 40960#32
  let main_v8 : IVec S393216 32 := broadcastInDim S393216 ![] bcast_S_S393216 main_c_3
  let main_v9 : IVec S393216 1 := cmpi .slt main_arg1 main_v8
  let main_v10 : IVec S393216 1 := andi main_v7 main_v9
  let main_c_4 : IVec S_ 1 := constantI S_ 1 1#1
  let main_v11 : IVec S_ 1 := (fun x v => Host.reduce IntOp.andi x v reducesTo_S393216_S_d0 h_S_) main_v10 main_c_4
  let main_v12 : IVec S_ 1 := andi main_v5 main_v11
  main_v12
-- ==== Kernel.lean ====
abbrev S256x192 : Shape := ⟨2, ![256, 192]⟩
abbrev S320x256x128 : Shape := ⟨3, ![320, 256, 128]⟩
abbrev S256 : Shape := ⟨1, ![256]⟩
abbrev S1x256 : Shape := ⟨2, ![1, 256]⟩
abbrev S192x256 : Shape := ⟨2, ![192, 256]⟩
abbrev S192x40000 : Shape := ⟨2, ![192, 40000]⟩
abbrev S8x256x128 : Shape := ⟨3, ![8, 256, 128]⟩
abbrev S192x1024 : Shape := ⟨2, ![192, 1024]⟩
abbrev S1x256x128 : Shape := ⟨3, ![1, 256, 128]⟩
abbrev S256x128 : Shape := ⟨2, ![256, 128]⟩
abbrev S192x128 : Shape := ⟨2, ![192, 128]⟩

abbrev nBuf : Space → Nat
  | .hbm => 8
  | .vmem => 6
  | .smem => 0
  | _ => 0

abbrev bufTy : (tb : Table) → Fin (tcTables nBuf tb) → BufTy
  | .hbm, ⟨0, _⟩ => ⟨S256x192, .bf16⟩
  | .hbm, ⟨1, _⟩ => ⟨S320x256x128, .f32⟩
  | .hbm, ⟨2, _⟩ => ⟨S256, .f32⟩
  | .hbm, ⟨3, _⟩ => ⟨S256, .bf16⟩
  | .hbm, ⟨4, _⟩ => ⟨S256, .f32⟩
  | .hbm, ⟨5, _⟩ => ⟨S1x256, .f32⟩
  | .hbm, ⟨6, _⟩ => ⟨S192x256, .bf16⟩
  | .hbm, ⟨7, _⟩ => ⟨S192x40000, .bf16⟩
  | .local _ .vmem, ⟨0, _⟩ => ⟨S8x256x128, .f32⟩
  | .local _ .vmem, ⟨1, _⟩ => ⟨S8x256x128, .f32⟩
  | .local _ .vmem, ⟨2, _⟩ => ⟨S192x256, .bf16⟩
  | .local _ .vmem, ⟨3, _⟩ => ⟨S1x256, .f32⟩
  | .local _ .vmem, ⟨4, _⟩ => ⟨S192x1024, .bf16⟩
  | .local _ .vmem, ⟨5, _⟩ => ⟨S192x1024, .bf16⟩
  | _, _ => ⟨S256x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x192 : Shape := ⟨2, ![256, 192]⟩
abbrev S320x256x128 : Shape := ⟨3, ![320, 256, 128]⟩
abbrev S256 : Shape := ⟨1, ![256]⟩
abbrev S256x320x128 : Shape := ⟨3, ![256, 320, 128]⟩
abbrev S256x40960 : Shape := ⟨2, ![256, 40960]⟩
abbrev S256x40000 : Shape := ⟨2, ![256, 40000]⟩
abbrev S256x1 : Shape := ⟨2, ![256, 1]⟩
abbrev S192x40000 : Shape := ⟨2, ![192, 40000]⟩

abbrev nBuf : Space → Nat
  | .hbm => 15
  | .vmem => 0
  | .smem => 0
  | _ => 0

abbrev bufTy : (tb : Table) → Fin (tcTables nBuf tb) → BufTy
  | .hbm, ⟨0, _⟩ => ⟨S256x192, .bf16⟩
  | .hbm, ⟨1, _⟩ => ⟨S320x256x128, .f32⟩
  | .hbm, ⟨2, _⟩ => ⟨S256, .f32⟩
  | .hbm, ⟨3, _⟩ => ⟨S256x320x128, .f32⟩
  | .hbm, ⟨4, _⟩ => ⟨S256x40960, .f32⟩
  | .hbm, ⟨5, _⟩ => ⟨S256x40000, .f32⟩
  | .hbm, ⟨6, _⟩ => ⟨S256x40000, .bf16⟩
  | .hbm, ⟨7, _⟩ => ⟨S256, .bf16⟩
  | .hbm, ⟨8, _⟩ => ⟨S256x1, .bf16⟩
  | .hbm, ⟨9, _⟩ => ⟨S256x40000, .bf16⟩
  | .hbm, ⟨10, _⟩ => ⟨S256x40000, .bf16⟩
  | .hbm, ⟨11, _⟩ => ⟨S256x192, .f32⟩
  | .hbm, ⟨12, _⟩ => ⟨S256x40000, .f32⟩
  | .hbm, ⟨13, _⟩ => ⟨S192x40000, .f32⟩
  | .hbm, ⟨14, _⟩ => ⟨S192x40000, .bf16⟩
  | _, _ => ⟨S256x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Scatter.lean ====
abbrev S257 : Shape := ⟨1, ![257]⟩
abbrev S393216 : Shape := ⟨1, ![393216]⟩
abbrev S98304 : Shape := ⟨1, ![98304]⟩
abbrev S320x256x128 : Shape := ⟨3, ![320, 256, 128]⟩
abbrev S2048 : Shape := ⟨1, ![2048]⟩
abbrev S512 : Shape := ⟨1, ![512]⟩
abbrev S320x128 : Shape := ⟨2, ![320, 128]⟩
abbrev S_ : Shape := ⟨0, ![]⟩
abbrev S16 : Shape := ⟨1, ![16]⟩
abbrev S1x16 : Shape := ⟨2, ![1, 16]⟩
abbrev S1 : Shape := ⟨1, ![1]⟩
abbrev S320x1x128 : Shape := ⟨3, ![320, 1, 128]⟩

abbrev nBuf : Table → Nat
  | .hbm => 4
  | .local .scVector .vmem => 4
  | _ => 0

abbrev bufTy : (tb : Table) → Fin (nBuf tb) → BufTy
  | .hbm, ⟨0, _⟩ => ⟨S257, .i32⟩
  | .hbm, ⟨1, _⟩ => ⟨S393216, .i32⟩
  | .hbm, ⟨2, _⟩ => ⟨S98304, .i32⟩
  | .hbm, ⟨3, _⟩ => ⟨S320x256x128, .f32⟩
  | .local .scVector .vmem, ⟨0, _⟩ => ⟨S257, .i32⟩
  | .local .scVector .vmem, ⟨1, _⟩ => ⟨S2048, .i32⟩
  | .local .scVector .vmem, ⟨2, _⟩ => ⟨S512, .i32⟩
  | .local .scVector .vmem, ⟨3, _⟩ => ⟨S320x128, .f32⟩
  | _, _ => ⟨S257, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg1_scv : Ref sig .scVector := ⟨.hbm, 1, rfl⟩
abbrev main_arg2_scv : Ref sig .scVector := ⟨.hbm, 2, rfl⟩
abbrev main_arg0_scv : Ref sig .scVector := ⟨.hbm, 0, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c320_i32 : BitVec 32 := 320#32
  let v4 : BitVec 32 := Scalar.addi c0_i32 c320_i32
  let c1_i32 : BitVec 32 := 1#32
  ⟨c0_i32, v4, c1_i32⟩
def k0_off1 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v8 : Index := Scalar.indexCast v7
  let c0 : Index := 0#32
  ![v8.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v10 : Index := Scalar.indexCast v7
  let c16 : Index := 16#32
  ![v10.toNat, 16]
def k0_off3 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v12 : Index := Scalar.indexCast v7
  let c32 : Index := 32#32
  ![v12.toNat, 32]
def k0_off4 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v14 : Index := Scalar.indexCast v7
  let c48 : Index := 48#32
  ![v14.toNat, 48]
def k0_off5 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v16 : Index := Scalar.indexCast v7
  let c64 : Index := 64#32
  ![v16.toNat, 64]
def k0_off6 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v18 : Index := Scalar.indexCast v7
  let c80 : Index := 80#32
  ![v18.toNat, 80]
def k0_off7 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v20 : Index := Scalar.indexCast v7
  let c96 : Index := 96#32
  ![v20.toNat, 96]
def k0_off8 (k0_t1 : Fin k0_t1_loop.trips) : Fin 2 → Nat :=
  let c0_i32_5 : BitVec 32 := 0#32
  let c0_i32 : BitVec 32 := 0#32
  let c1_i32 : BitVec 32 := 1#32
  let arg11 : BitVec 32 := Scf.iv c0_i32 c1_i32 k0_t1
  let c1_i32_4 : BitVec 32 := 1#32
  let v6 : BitVec 32 := Scalar.muli arg11 c1_i32_4
  let v7 : BitVec 32 := Scalar.addi c0_i32_5 v6
  let v22 : Index := Scalar.indexCast v7
  let c112 : Index := 112#32
  ![v22.toNat, 112]
@[reducible] def k0_t2_loop : Scf.Loop 32 :=
  let c0_i32_1 : BitVec 32 := 0#32
  let c8_i32 : BitVec 32 := 8#32
  let v5 : BitVec 32 := Scalar.addi c0_i32_1 c8_i32
  let c1_i32_2 : BitVec 32 := 1#32
  ⟨c0_i32_1, v5, c1_i32_2⟩

def k0_chk1 (v14 : IVec S16 32) : Prop :=
  (∀ a x, ((![v14] : Fin 1 → IVec S16 32) a x).toNat < S257.size a)
theorem k0_idx1_inb : ∀ (v14 : IVec S16 32) (k0_hw1 : k0_chk1 v14), ∀ a x, ((![v14] : Fin 1 → IVec S16 32) a x).toNat < S257.size a := fun v14 k0_hw1 => k0_hw1
@[reducible] def k0_t3_loop (v17 : BitVec 32) (v19 : BitVec 32) : Scf.Loop 32 :=
  let c0_i32_20 : BitVec 32 := 0#32
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_22 : BitVec 32 := 1#32
  ⟨c0_i32_20, v49, c1_i32_22⟩

def k0_mult1 (v17 : BitVec 32) (v19 : BitVec 32) (k0_t3 : Fin (k0_t3_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let c1_i32_22 : BitVec 32 := 1#32
  let arg12 : BitVec 32 := Scf.iv c0_i32_20 c1_i32_22 k0_t3
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  v71
def k0_off9 (v17 : BitVec 32) (v19 : BitVec 32) (k0_t3 : Fin (k0_t3_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let c1_i32_22 : BitVec 32 := 1#32
  let arg12 : BitVec 32 := Scf.iv c0_i32_20 c1_i32_22 k0_t3
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  ![v72.toNat]
def k0_mult2 (v17 : BitVec 32) (v19 : BitVec 32) (k0_t3 : Fin (k0_t3_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let c1_i32_22 : BitVec 32 := 1#32
  let arg12 : BitVec 32 := Scf.iv c0_i32_20 c1_i32_22 k0_t3
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  let c2_i32_44 : BitVec 32 := 2#32
  let v76 : BitVec 32 := Scalar.shrsi v72 c2_i32_44
  v76
def k0_off10 (v17 : BitVec 32) (v19 : BitVec 32) (k0_t3 : Fin (k0_t3_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let c1_i32_22 : BitVec 32 := 1#32
  let arg12 : BitVec 32 := Scf.iv c0_i32_20 c1_i32_22 k0_t3
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  let c2_i32_44 : BitVec 32 := 2#32
  let v76 : BitVec 32 := Scalar.shrsi v72 c2_i32_44
  let v77 : BitVec 32 := v76
  ![v77.toNat]
@[reducible] def k0_t4_loop : Scf.Loop 32 :=
  let c0_i32_45 : BitVec 32 := 0#32
  let c32_i32_46 : BitVec 32 := 32#32
  let v78 : BitVec 32 := Scalar.addi c0_i32_45 c32_i32_46
  let c1_i32_47 : BitVec 32 := 1#32
  ⟨c0_i32_45, v78, c1_i32_47⟩
def k0_off11 (k0_t4 : Fin k0_t4_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c2_i32_52 : BitVec 32 := 2#32
  let v85 : BitVec 32 := Scalar.shrsi v82 c2_i32_52
  let c7_i32 : BitVec 32 := 7#32
  let v83 : BitVec 32 := Scalar.andi v80 c7_i32
  let c16_i32 : BitVec 32 := 16#32
  let v84 : BitVec 32 := Scalar.muli v83 c16_i32
  let v86 : BitVec 32 := Scalar.addi v85 v84
  let v87 : Index := Scalar.indexCast v86
  ![v87.toNat]
def k0_off12 (k0_t4 : Fin k0_t4_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c0_i32_53 : BitVec 32 := 0#32
  let v89 : BitVec 32 := Scalar.addi v82 c0_i32_53
  let c7_i32 : BitVec 32 := 7#32
  let v83 : BitVec 32 := Scalar.andi v80 c7_i32
  let c16_i32 : BitVec 32 := 16#32
  let v84 : BitVec 32 := Scalar.muli v83 c16_i32
  let v90 : BitVec 32 := Scalar.addi v89 v84
  let v91 : Index := Scalar.indexCast v90
  ![v91.toNat]

def k0_chk3 (v102 : IVec S16 32) (v104 : IVec S16 32) : Prop :=
  (∀ a x, ((![v102, v104] : Fin 2 → IVec S16 32) a x).toNat < S320x128.size a)
theorem k0_idx2_inb : ∀ (v102 : IVec S16 32) (v104 : IVec S16 32) (k0_hw3 : k0_chk3 v102 v104), ∀ a x, ((![v102, v104] : Fin 2 → IVec S16 32) a x).toNat < S320x128.size a := fun v102 v104 k0_hw3 => k0_hw3
def k0_off13 (k0_t4 : Fin k0_t4_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c128_i32_60 : BitVec 32 := 128#32
  let v127 : BitVec 32 := Scalar.addi v82 c128_i32_60
  let c7_i32 : BitVec 32 := 7#32
  let v83 : BitVec 32 := Scalar.andi v80 c7_i32
  let c16_i32 : BitVec 32 := 16#32
  let v84 : BitVec 32 := Scalar.muli v83 c16_i32
  let v128 : BitVec 32 := Scalar.addi v127 v84
  let v129 : Index := Scalar.indexCast v128
  ![v129.toNat]

def k0_chk4 (v140 : IVec S16 32) (v142 : IVec S16 32) : Prop :=
  (∀ a x, ((![v140, v142] : Fin 2 → IVec S16 32) a x).toNat < S320x128.size a)
theorem k0_idx3_inb : ∀ (v140 : IVec S16 32) (v142 : IVec S16 32) (k0_hw4 : k0_chk4 v140 v142), ∀ a x, ((![v140, v142] : Fin 2 → IVec S16 32) a x).toNat < S320x128.size a := fun v140 v142 k0_hw4 => k0_hw4
def k0_off14 (k0_t4 : Fin k0_t4_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c256_i32 : BitVec 32 := 256#32
  let v165 : BitVec 32 := Scalar.addi v82 c256_i32
  let c7_i32 : BitVec 32 := 7#32
  let v83 : BitVec 32 := Scalar.andi v80 c7_i32
  let c16_i32 : BitVec 32 := 16#32
  let v84 : BitVec 32 := Scalar.muli v83 c16_i32
  let v166 : BitVec 32 := Scalar.addi v165 v84
  let v167 : Index := Scalar.indexCast v166
  ![v167.toNat]

def k0_chk5 (v178 : IVec S16 32) (v180 : IVec S16 32) : Prop :=
  (∀ a x, ((![v178, v180] : Fin 2 → IVec S16 32) a x).toNat < S320x128.size a)
theorem k0_idx4_inb : ∀ (v178 : IVec S16 32) (v180 : IVec S16 32) (k0_hw5 : k0_chk5 v178 v180), ∀ a x, ((![v178, v180] : Fin 2 → IVec S16 32) a x).toNat < S320x128.size a := fun v178 v180 k0_hw5 => k0_hw5
def k0_off15 (k0_t4 : Fin k0_t4_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t4
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c384_i32 : BitVec 32 := 384#32
  let v203 : BitVec 32 := Scalar.addi v82 c384_i32
  let c7_i32 : BitVec 32 := 7#32
  let v83 : BitVec 32 := Scalar.andi v80 c7_i32
  let c16_i32 : BitVec 32 := 16#32
  let v84 : BitVec 32 := Scalar.muli v83 c16_i32
  let v204 : BitVec 32 := Scalar.addi v203 v84
  let v205 : Index := Scalar.indexCast v204
  ![v205.toNat]

def k0_chk6 (v216 : IVec S16 32) (v218 : IVec S16 32) : Prop :=
  (∀ a x, ((![v216, v218] : Fin 2 → IVec S16 32) a x).toNat < S320x128.size a)
theorem k0_idx5_inb : ∀ (v216 : IVec S16 32) (v218 : IVec S16 32) (k0_hw6 : k0_chk6 v216 v218), ∀ a x, ((![v216, v218] : Fin 2 → IVec S16 32) a x).toNat < S320x128.size a := fun v216 v218 k0_hw6 => k0_hw6
@[reducible] def k0_t5_loop (v17 : BitVec 32) (v19 : BitVec 32) : Scf.Loop 32 :=
  let c0_i32_20 : BitVec 32 := 0#32
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let v46 : BitVec 32 := Scalar.addi c0_i32_20 v45
  let c1_i32_23 : BitVec 32 := 1#32
  ⟨v49, v46, c1_i32_23⟩
def k0_mult3 (v17 : BitVec 32) (v19 : BitVec 32) (k0_t5 : Fin (k0_t5_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg12 : BitVec 32 := Scf.iv v49 c1_i32_23 k0_t5
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  v71
def k0_off16 (v17 : BitVec 32) (v19 : BitVec 32) (k0_t5 : Fin (k0_t5_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg12 : BitVec 32 := Scf.iv v49 c1_i32_23 k0_t5
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  ![v72.toNat]
def k0_mult4 (v17 : BitVec 32) (v19 : BitVec 32) (k0_t5 : Fin (k0_t5_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg12 : BitVec 32 := Scf.iv v49 c1_i32_23 k0_t5
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  let c2_i32_44 : BitVec 32 := 2#32
  let v76 : BitVec 32 := Scalar.shrsi v72 c2_i32_44
  v76
def k0_off17 (v17 : BitVec 32) (v19 : BitVec 32) (k0_t5 : Fin (k0_t5_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_19 : BitVec 32 := 0#32
  let c0_i32_20 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_14 : BitVec 32 := 0#32
  let v41 : BitVec 32 := Scalar.subi v40 c0_i32_14
  let c1_i32_15 : BitVec 32 := 1#32
  let c1_i32_16 : BitVec 32 := 1#32
  let v42 : BitVec 32 := Scalar.subi c1_i32_15 c1_i32_16
  let v43 : BitVec 32 := Scalar.addi v41 v42
  let c1_i32_17 : BitVec 32 := 1#32
  let v44 : BitVec 32 := Scalar.divsi v43 c1_i32_17
  let v45 : BitVec 32 := Scalar.subi v44 c0_i32_20
  let c1_i32_21 : BitVec 32 := 1#32
  let v47 : BitVec 32 := Scalar.divsi v45 c1_i32_21
  let v48 : BitVec 32 := Scalar.muli v47 c1_i32_21
  let v49 : BitVec 32 := Scalar.addi c0_i32_20 v48
  let c1_i32_23 : BitVec 32 := 1#32
  let arg12 : BitVec 32 := Scf.iv v49 c1_i32_23 k0_t5
  let c1_i32_18 : BitVec 32 := 1#32
  let v67 : BitVec 32 := Scalar.muli arg12 c1_i32_18
  let v68 : BitVec 32 := Scalar.addi c0_i32_19 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  let c2_i32_44 : BitVec 32 := 2#32
  let v76 : BitVec 32 := Scalar.shrsi v72 c2_i32_44
  let v77 : BitVec 32 := v76
  ![v77.toNat]
@[reducible] def k0_t6_loop : Scf.Loop 32 :=
  let c0_i32_45 : BitVec 32 := 0#32
  let c32_i32_46 : BitVec 32 := 32#32
  let v78 : BitVec 32 := Scalar.addi c0_i32_45 c32_i32_46
  let c1_i32_47 : BitVec 32 := 1#32
  ⟨c0_i32_45, v78, c1_i32_47⟩
def k0_off18 (k0_t6 : Fin k0_t6_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t6
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c2_i32_52 : BitVec 32 := 2#32
  let v85 : BitVec 32 := Scalar.shrsi v82 c2_i32_52
  let c7_i32 : BitVec 32 := 7#32
  let v83 : BitVec 32 := Scalar.andi v80 c7_i32
  let c16_i32 : BitVec 32 := 16#32
  let v84 : BitVec 32 := Scalar.muli v83 c16_i32
  let v86 : BitVec 32 := Scalar.addi v85 v84
  let v87 : Index := Scalar.indexCast v86
  ![v87.toNat]
def k0_off19 (k0_t6 : Fin k0_t6_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t6
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c0_i32_53 : BitVec 32 := 0#32
  let v89 : BitVec 32 := Scalar.addi v82 c0_i32_53
  let c7_i32 : BitVec 32 := 7#32
  let v83 : BitVec 32 := Scalar.andi v80 c7_i32
  let c16_i32 : BitVec 32 := 16#32
  let v84 : BitVec 32 := Scalar.muli v83 c16_i32
  let v90 : BitVec 32 := Scalar.addi v89 v84
  let v91 : Index := Scalar.indexCast v90
  ![v91.toNat]

def k0_chk7 (v102 : IVec S16 32) (v104 : IVec S16 32) : Prop :=
  (∀ a x, ((![v102, v104] : Fin 2 → IVec S16 32) a x).toNat < S320x128.size a)
theorem k0_idx6_inb : ∀ (v102 : IVec S16 32) (v104 : IVec S16 32) (k0_hw7 : k0_chk7 v102 v104), ∀ a x, ((![v102, v104] : Fin 2 → IVec S16 32) a x).toNat < S320x128.size a := fun v102 v104 k0_hw7 => k0_hw7
def k0_off20 (k0_t6 : Fin k0_t6_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t6
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c128_i32_60 : BitVec 32 := 128#32
  let v127 : BitVec 32 := Scalar.addi v82 c128_i32_60
  let c7_i32 : BitVec 32 := 7#32
  let v83 : BitVec 32 := Scalar.andi v80 c7_i32
  let c16_i32 : BitVec 32 := 16#32
  let v84 : BitVec 32 := Scalar.muli v83 c16_i32
  let v128 : BitVec 32 := Scalar.addi v127 v84
  let v129 : Index := Scalar.indexCast v128
  ![v129.toNat]

def k0_chk8 (v140 : IVec S16 32) (v142 : IVec S16 32) : Prop :=
  (∀ a x, ((![v140, v142] : Fin 2 → IVec S16 32) a x).toNat < S320x128.size a)
theorem k0_idx7_inb : ∀ (v140 : IVec S16 32) (v142 : IVec S16 32) (k0_hw8 : k0_chk8 v140 v142), ∀ a x, ((![v140, v142] : Fin 2 → IVec S16 32) a x).toNat < S320x128.size a := fun v140 v142 k0_hw8 => k0_hw8
def k0_off21 (k0_t6 : Fin k0_t6_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t6
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c256_i32 : BitVec 32 := 256#32
  let v165 : BitVec 32 := Scalar.addi v82 c256_i32
  let c7_i32 : BitVec 32 := 7#32
  let v83 : BitVec 32 := Scalar.andi v80 c7_i32
  let c16_i32 : BitVec 32 := 16#32
  let v84 : BitVec 32 := Scalar.muli v83 c16_i32
  let v166 : BitVec 32 := Scalar.addi v165 v84
  let v167 : Index := Scalar.indexCast v166
  ![v167.toNat]

def k0_chk9 (v178 : IVec S16 32) (v180 : IVec S16 32) : Prop :=
  (∀ a x, ((![v178, v180] : Fin 2 → IVec S16 32) a x).toNat < S320x128.size a)
theorem k0_idx8_inb : ∀ (v178 : IVec S16 32) (v180 : IVec S16 32) (k0_hw9 : k0_chk9 v178 v180), ∀ a x, ((![v178, v180] : Fin 2 → IVec S16 32) a x).toNat < S320x128.size a := fun v178 v180 k0_hw9 => k0_hw9
def k0_off22 (k0_t6 : Fin k0_t6_loop.trips) : Fin 1 → Nat :=
  let c0_i32_50 : BitVec 32 := 0#32
  let c0_i32_45 : BitVec 32 := 0#32
  let c1_i32_47 : BitVec 32 := 1#32
  let arg13 : BitVec 32 := Scf.iv c0_i32_45 c1_i32_47 k0_t6
  let c1_i32_49 : BitVec 32 := 1#32
  let v79 : BitVec 32 := Scalar.muli arg13 c1_i32_49
  let v80 : BitVec 32 := Scalar.addi c0_i32_50 v79
  let c3_i32 : BitVec 32 := 3#32
  let v81 : BitVec 32 := Scalar.shrsi v80 c3_i32
  let c512_i32_51 : BitVec 32 := 512#32
  let v82 : BitVec 32 := Scalar.muli v81 c512_i32_51
  let c384_i32 : BitVec 32 := 384#32
  let v203 : BitVec 32 := Scalar.addi v82 c384_i32
  let c7_i32 : BitVec 32 := 7#32
  let v83 : BitVec 32 := Scalar.andi v80 c7_i32
  let c16_i32 : BitVec 32 := 16#32
  let v84 : BitVec 32 := Scalar.muli v83 c16_i32
  let v204 : BitVec 32 := Scalar.addi v203 v84
  let v205 : Index := Scalar.indexCast v204
  ![v205.toNat]

def k0_chk10 (v216 : IVec S16 32) (v218 : IVec S16 32) : Prop :=
  (∀ a x, ((![v216, v218] : Fin 2 → IVec S16 32) a x).toNat < S320x128.size a)
theorem k0_idx9_inb : ∀ (v216 : IVec S16 32) (v218 : IVec S16 32) (k0_hw10 : k0_chk10 v216 v218), ∀ a x, ((![v216, v218] : Fin 2 → IVec S16 32) a x).toNat < S320x128.size a := fun v216 v218 k0_hw10 => k0_hw10
def k0_off23 (i : grid0.Coords) (k0_t2 : Fin k0_t2_loop.trips) : Fin 3 → Nat :=
  let c0_i32_24 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_5 : BitVec 32 := 0#32
  let c0_i32_1 : BitVec 32 := 0#32
  let c1_i32_2 : BitVec 32 := 1#32
  let arg11 : BitVec 32 := Scf.iv c0_i32_1 c1_i32_2 k0_t2
  let c1_i32_4 : BitVec 32 := 1#32
  let v6 : BitVec 32 := Scalar.muli arg11 c1_i32_4
  let v7 : BitVec 32 := Scalar.addi c0_i32_5 v6
  let v8 : BitVec 32 := Scalar.muli c32_i32 v7
  let v9 : BitVec 32 := Scalar.addi v1 v8
  let c0_i32_25 : BitVec 32 := 0#32
  ![0, v9.toNat, 0]
@[reducible] def k0_t7_loop (v17 : BitVec 32) (v19 : BitVec 32) : Scf.Loop 32 :=
  let c0_i32_38 : BitVec 32 := 0#32
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_32 : BitVec 32 := 0#32
  let v58 : BitVec 32 := Scalar.subi v40 c0_i32_32
  let c1_i32_33 : BitVec 32 := 1#32
  let c1_i32_34 : BitVec 32 := 1#32
  let v59 : BitVec 32 := Scalar.subi c1_i32_33 c1_i32_34
  let v60 : BitVec 32 := Scalar.addi v58 v59
  let c1_i32_35 : BitVec 32 := 1#32
  let v61 : BitVec 32 := Scalar.divsi v60 c1_i32_35
  let v62 : BitVec 32 := Scalar.subi v61 c0_i32_38
  let c1_i32_39 : BitVec 32 := 1#32
  let v64 : BitVec 32 := Scalar.divsi v62 c1_i32_39
  let v65 : BitVec 32 := Scalar.muli v64 c1_i32_39
  let v66 : BitVec 32 := Scalar.addi c0_i32_38 v65
  let c1_i32_40 : BitVec 32 := 1#32
  ⟨c0_i32_38, v66, c1_i32_40⟩
def k0_mult5 (v17 : BitVec 32) (v19 : BitVec 32) (k0_t7 : Fin (k0_t7_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_37 : BitVec 32 := 0#32
  let c0_i32_38 : BitVec 32 := 0#32
  let c1_i32_40 : BitVec 32 := 1#32
  let arg12 : BitVec 32 := Scf.iv c0_i32_38 c1_i32_40 k0_t7
  let c1_i32_36 : BitVec 32 := 1#32
  let v67 : BitVec 32 := Scalar.muli arg12 c1_i32_36
  let v68 : BitVec 32 := Scalar.addi c0_i32_37 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  v71
def k0_off24 (v17 : BitVec 32) (v19 : BitVec 32) (k0_t7 : Fin (k0_t7_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_37 : BitVec 32 := 0#32
  let c0_i32_38 : BitVec 32 := 0#32
  let c1_i32_40 : BitVec 32 := 1#32
  let arg12 : BitVec 32 := Scf.iv c0_i32_38 c1_i32_40 k0_t7
  let c1_i32_36 : BitVec 32 := 1#32
  let v67 : BitVec 32 := Scalar.muli arg12 c1_i32_36
  let v68 : BitVec 32 := Scalar.addi c0_i32_37 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  ![v72.toNat]
@[reducible] def k0_t8_loop : Scf.Loop 32 :=
  let c0_i32_44 : BitVec 32 := 0#32
  let c32_i32_45 : BitVec 32 := 32#32
  let v76 : BitVec 32 := Scalar.addi c0_i32_44 c32_i32_45
  let c1_i32_46 : BitVec 32 := 1#32
  ⟨c0_i32_44, v76, c1_i32_46⟩
def k0_off25 (k0_t8 : Fin k0_t8_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t8
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c0_i32_51 : BitVec 32 := 0#32
  let v83 : BitVec 32 := Scalar.addi v80 c0_i32_51
  let c7_i32 : BitVec 32 := 7#32
  let v81 : BitVec 32 := Scalar.andi v78 c7_i32
  let c16_i32 : BitVec 32 := 16#32
  let v82 : BitVec 32 := Scalar.muli v81 c16_i32
  let v84 : BitVec 32 := Scalar.addi v83 v82
  let v85 : Index := Scalar.indexCast v84
  ![v85.toNat]

def k0_chk11 (v96 : IVec S16 32) (v98 : IVec S16 32) : Prop :=
  (∀ a x, ((![v96, v98] : Fin 2 → IVec S16 32) a x).toNat < S320x128.size a)
theorem k0_idx10_inb : ∀ (v96 : IVec S16 32) (v98 : IVec S16 32) (k0_hw11 : k0_chk11 v96 v98), ∀ a x, ((![v96, v98] : Fin 2 → IVec S16 32) a x).toNat < S320x128.size a := fun v96 v98 k0_hw11 => k0_hw11
def k0_off26 (k0_t8 : Fin k0_t8_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t8
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c128_i32 : BitVec 32 := 128#32
  let v99 : BitVec 32 := Scalar.addi v80 c128_i32
  let c7_i32 : BitVec 32 := 7#32
  let v81 : BitVec 32 := Scalar.andi v78 c7_i32
  let c16_i32 : BitVec 32 := 16#32
  let v82 : BitVec 32 := Scalar.muli v81 c16_i32
  let v100 : BitVec 32 := Scalar.addi v99 v82
  let v101 : Index := Scalar.indexCast v100
  ![v101.toNat]

def k0_chk12 (v112 : IVec S16 32) (v114 : IVec S16 32) : Prop :=
  (∀ a x, ((![v112, v114] : Fin 2 → IVec S16 32) a x).toNat < S320x128.size a)
theorem k0_idx11_inb : ∀ (v112 : IVec S16 32) (v114 : IVec S16 32) (k0_hw12 : k0_chk12 v112 v114), ∀ a x, ((![v112, v114] : Fin 2 → IVec S16 32) a x).toNat < S320x128.size a := fun v112 v114 k0_hw12 => k0_hw12
def k0_off27 (k0_t8 : Fin k0_t8_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t8
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c256_i32 : BitVec 32 := 256#32
  let v115 : BitVec 32 := Scalar.addi v80 c256_i32
  let c7_i32 : BitVec 32 := 7#32
  let v81 : BitVec 32 := Scalar.andi v78 c7_i32
  let c16_i32 : BitVec 32 := 16#32
  let v82 : BitVec 32 := Scalar.muli v81 c16_i32
  let v116 : BitVec 32 := Scalar.addi v115 v82
  let v117 : Index := Scalar.indexCast v116
  ![v117.toNat]

def k0_chk13 (v128 : IVec S16 32) (v130 : IVec S16 32) : Prop :=
  (∀ a x, ((![v128, v130] : Fin 2 → IVec S16 32) a x).toNat < S320x128.size a)
theorem k0_idx12_inb : ∀ (v128 : IVec S16 32) (v130 : IVec S16 32) (k0_hw13 : k0_chk13 v128 v130), ∀ a x, ((![v128, v130] : Fin 2 → IVec S16 32) a x).toNat < S320x128.size a := fun v128 v130 k0_hw13 => k0_hw13
def k0_off28 (k0_t8 : Fin k0_t8_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t8
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c384_i32 : BitVec 32 := 384#32
  let v131 : BitVec 32 := Scalar.addi v80 c384_i32
  let c7_i32 : BitVec 32 := 7#32
  let v81 : BitVec 32 := Scalar.andi v78 c7_i32
  let c16_i32 : BitVec 32 := 16#32
  let v82 : BitVec 32 := Scalar.muli v81 c16_i32
  let v132 : BitVec 32 := Scalar.addi v131 v82
  let v133 : Index := Scalar.indexCast v132
  ![v133.toNat]

def k0_chk14 (v144 : IVec S16 32) (v146 : IVec S16 32) : Prop :=
  (∀ a x, ((![v144, v146] : Fin 2 → IVec S16 32) a x).toNat < S320x128.size a)
theorem k0_idx13_inb : ∀ (v144 : IVec S16 32) (v146 : IVec S16 32) (k0_hw14 : k0_chk14 v144 v146), ∀ a x, ((![v144, v146] : Fin 2 → IVec S16 32) a x).toNat < S320x128.size a := fun v144 v146 k0_hw14 => k0_hw14
@[reducible] def k0_t9_loop (v17 : BitVec 32) (v19 : BitVec 32) : Scf.Loop 32 :=
  let c0_i32_38 : BitVec 32 := 0#32
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_32 : BitVec 32 := 0#32
  let v58 : BitVec 32 := Scalar.subi v40 c0_i32_32
  let c1_i32_33 : BitVec 32 := 1#32
  let c1_i32_34 : BitVec 32 := 1#32
  let v59 : BitVec 32 := Scalar.subi c1_i32_33 c1_i32_34
  let v60 : BitVec 32 := Scalar.addi v58 v59
  let c1_i32_35 : BitVec 32 := 1#32
  let v61 : BitVec 32 := Scalar.divsi v60 c1_i32_35
  let v62 : BitVec 32 := Scalar.subi v61 c0_i32_38
  let c1_i32_39 : BitVec 32 := 1#32
  let v64 : BitVec 32 := Scalar.divsi v62 c1_i32_39
  let v65 : BitVec 32 := Scalar.muli v64 c1_i32_39
  let v66 : BitVec 32 := Scalar.addi c0_i32_38 v65
  let v63 : BitVec 32 := Scalar.addi c0_i32_38 v62
  let c1_i32_41 : BitVec 32 := 1#32
  ⟨v66, v63, c1_i32_41⟩
def k0_mult6 (v17 : BitVec 32) (v19 : BitVec 32) (k0_t9 : Fin (k0_t9_loop v17 v19).trips) : BitVec 32 :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_37 : BitVec 32 := 0#32
  let c0_i32_38 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_32 : BitVec 32 := 0#32
  let v58 : BitVec 32 := Scalar.subi v40 c0_i32_32
  let c1_i32_33 : BitVec 32 := 1#32
  let c1_i32_34 : BitVec 32 := 1#32
  let v59 : BitVec 32 := Scalar.subi c1_i32_33 c1_i32_34
  let v60 : BitVec 32 := Scalar.addi v58 v59
  let c1_i32_35 : BitVec 32 := 1#32
  let v61 : BitVec 32 := Scalar.divsi v60 c1_i32_35
  let v62 : BitVec 32 := Scalar.subi v61 c0_i32_38
  let c1_i32_39 : BitVec 32 := 1#32
  let v64 : BitVec 32 := Scalar.divsi v62 c1_i32_39
  let v65 : BitVec 32 := Scalar.muli v64 c1_i32_39
  let v66 : BitVec 32 := Scalar.addi c0_i32_38 v65
  let c1_i32_41 : BitVec 32 := 1#32
  let arg12 : BitVec 32 := Scf.iv v66 c1_i32_41 k0_t9
  let c1_i32_36 : BitVec 32 := 1#32
  let v67 : BitVec 32 := Scalar.muli arg12 c1_i32_36
  let v68 : BitVec 32 := Scalar.addi c0_i32_37 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  v71
def k0_off29 (v17 : BitVec 32) (v19 : BitVec 32) (k0_t9 : Fin (k0_t9_loop v17 v19).trips) : Fin 1 → Nat :=
  let c0_i32_7 : BitVec 32 := 0#32
  let v21 : BitVec 1 := Scalar.cmpi .sgt v17 c0_i32_7
  let v22 : BitVec 32 := Scalar.extui v21
  let c0_i32_8 : BitVec 32 := 0#32
  let v23 : BitVec 1 := Scalar.cmpi .slt v17 c0_i32_8
  let v24 : BitVec 32 := Scalar.extui v23
  let v25 : BitVec 32 := Scalar.subi v22 v24
  let c512_i32 : BitVec 32 := 512#32
  let c0_i32_9 : BitVec 32 := 0#32
  let v26 : BitVec 1 := Scalar.cmpi .sgt c512_i32 c0_i32_9
  let v27 : BitVec 32 := Scalar.extui v26
  let c0_i32_10 : BitVec 32 := 0#32
  let v28 : BitVec 1 := Scalar.cmpi .slt c512_i32 c0_i32_10
  let v29 : BitVec 32 := Scalar.extui v28
  let v30 : BitVec 32 := Scalar.subi v27 v29
  let v31 : BitVec 1 := Scalar.cmpi .ne v25 v30
  let v32 : BitVec 32 := Scalar.remsi v17 c512_i32
  let c0_i32_11 : BitVec 32 := 0#32
  let v33 : BitVec 1 := Scalar.cmpi .ne v32 c0_i32_11
  let v34 : BitVec 1 := Scalar.andi v31 v33
  let v20 : BitVec 32 := Scalar.divsi v17 c512_i32
  let c1_i32_12 : BitVec 32 := 1#32
  let v35 : BitVec 32 := Scalar.subi v20 c1_i32_12
  let v36 : BitVec 32 := Scalar.select v34 v35 v20
  let c512_i32_13 : BitVec 32 := 512#32
  let v37 : BitVec 32 := Scalar.muli v36 c512_i32_13
  let c0_i32_37 : BitVec 32 := 0#32
  let c0_i32_38 : BitVec 32 := 0#32
  let v38 : BitVec 32 := Scalar.subi v19 v37
  let c2047_i32 : BitVec 32 := 2047#32
  let v39 : BitVec 32 := Scalar.addi v38 c2047_i32
  let c2048_i32 : BitVec 32 := 2048#32
  let v40 : BitVec 32 := Scalar.divsi v39 c2048_i32
  let c0_i32_32 : BitVec 32 := 0#32
  let v58 : BitVec 32 := Scalar.subi v40 c0_i32_32
  let c1_i32_33 : BitVec 32 := 1#32
  let c1_i32_34 : BitVec 32 := 1#32
  let v59 : BitVec 32 := Scalar.subi c1_i32_33 c1_i32_34
  let v60 : BitVec 32 := Scalar.addi v58 v59
  let c1_i32_35 : BitVec 32 := 1#32
  let v61 : BitVec 32 := Scalar.divsi v60 c1_i32_35
  let v62 : BitVec 32 := Scalar.subi v61 c0_i32_38
  let c1_i32_39 : BitVec 32 := 1#32
  let v64 : BitVec 32 := Scalar.divsi v62 c1_i32_39
  let v65 : BitVec 32 := Scalar.muli v64 c1_i32_39
  let v66 : BitVec 32 := Scalar.addi c0_i32_38 v65
  let c1_i32_41 : BitVec 32 := 1#32
  let arg12 : BitVec 32 := Scf.iv v66 c1_i32_41 k0_t9
  let c1_i32_36 : BitVec 32 := 1#32
  let v67 : BitVec 32 := Scalar.muli arg12 c1_i32_36
  let v68 : BitVec 32 := Scalar.addi c0_i32_37 v67
  let c2048_i32_42 : BitVec 32 := 2048#32
  let v69 : BitVec 32 := Scalar.muli v68 c2048_i32_42
  let v70 : BitVec 32 := Scalar.addi v37 v69
  let c391168_i32 : BitVec 32 := 391168#32
  let v71 : BitVec 32 := Scalar.minsi v70 c391168_i32
  let v72 : BitVec 32 := v71
  ![v72.toNat]

def k0_chk2 (v17 : BitVec 32) (v19 : BitVec 32) : Prop :=
  ((k0_t3_loop v17 v19).OK) ∧
  (∀ k0_t3 : Fin (k0_t3_loop v17 v19).trips, 512 ∣ (k0_mult1 v17 v19 k0_t3).toNat) ∧
  (∀ k0_t3 : Fin (k0_t3_loop v17 v19).trips, ∀ a, (k0_off9 v17 v19 k0_t3) a + S2048.size a ≤ S393216.size a) ∧
  (∀ k0_t3 : Fin (k0_t3_loop v17 v19).trips, 128 ∣ (k0_mult2 v17 v19 k0_t3).toNat) ∧
  (∀ k0_t3 : Fin (k0_t3_loop v17 v19).trips, ∀ a, (k0_off10 v17 v19 k0_t3) a + S512.size a ≤ S98304.size a) ∧
  ((k0_t5_loop v17 v19).OK) ∧
  (∀ k0_t5 : Fin (k0_t5_loop v17 v19).trips, 512 ∣ (k0_mult3 v17 v19 k0_t5).toNat) ∧
  (∀ k0_t5 : Fin (k0_t5_loop v17 v19).trips, ∀ a, (k0_off16 v17 v19 k0_t5) a + S2048.size a ≤ S393216.size a) ∧
  (∀ k0_t5 : Fin (k0_t5_loop v17 v19).trips, 128 ∣ (k0_mult4 v17 v19 k0_t5).toNat) ∧
  (∀ k0_t5 : Fin (k0_t5_loop v17 v19).trips, ∀ a, (k0_off17 v17 v19 k0_t5) a + S512.size a ≤ S98304.size a) ∧
  ((k0_t7_loop v17 v19).OK) ∧
  (∀ k0_t7 : Fin (k0_t7_loop v17 v19).trips, 512 ∣ (k0_mult5 v17 v19 k0_t7).toNat) ∧
  (∀ k0_t7 : Fin (k0_t7_loop v17 v19).trips, ∀ a, (k0_off24 v17 v19 k0_t7) a + S2048.size a ≤ S393216.size a) ∧
  ((k0_t9_loop v17 v19).OK) ∧
  (∀ k0_t9 : Fin (k0_t9_loop v17 v19).trips, 512 ∣ (k0_mult6 v17 v19 k0_t9).toNat) ∧
  (∀ k0_t9 : Fin (k0_t9_loop v17 v19).trips, ∀ a, (k0_off29 v17 v19 k0_t9) a + S2048.size a ≤ S393216.size a)
theorem k0_t3_ok : ∀ (v17 : BitVec 32) (v19 : BitVec 32) (k0_hw2 : k0_chk2 v17 v19), (k0_t3_loop v17 v19).OK := fun v17 v19 k0_hw2 => k0_hw2.1
theorem k0_mult1_dvd : ∀ (v17 : BitVec 32) (v19 : BitVec 32) (k0_hw2 : k0_chk2 v17 v19) (k0_t3 : Fin (k0_t3_loop v17 v19).trips), 512 ∣ (k0_mult1 v17 v19 k0_t3).toNat := fun v17 v19 k0_hw2 k0_t3 => k0_hw2.2.1 k0_t3
theorem k0_off9_inb : ∀ (v17 : BitVec 32) (v19 : BitVec 32) (k0_hw2 : k0_chk2 v17 v19) (k0_t3 : Fin (k0_t3_loop v17 v19).trips), ∀ a, (k0_off9 v17 v19 k0_t3) a + S2048.size a ≤ S393216.size a := fun v17 v19 k0_hw2 k0_t3 => k0_hw2.2.2.1 k0_t3
theorem k0_mult2_dvd : ∀ (v17 : BitVec 32) (v19 : BitVec 32) (k0_hw2 : k0_chk2 v17 v19) (k0_t3 : Fin (k0_t3_loop v17 v19).trips), 128 ∣ (k0_mult2 v17 v19 k0_t3).toNat := fun v17 v19 k0_hw2 k0_t3 => k0_hw2.2.2.2.1 k0_t3
theorem k0_off10_inb : ∀ (v17 : BitVec 32) (v19 : BitVec 32) (k0_hw2 : k0_chk2 v17 v19) (k0_t3 : Fin (k0_t3_loop v17 v19).trips), ∀ a, (k0_off10 v17 v19 k0_t3) a + S512.size a ≤ S98304.size a := fun v17 v19 k0_hw2 k0_t3 => k0_hw2.2.2.2.2.1 k0_t3
theorem k0_t5_ok : ∀ (v17 : BitVec 32) (v19 : BitVec 32) (k0_hw2 : k0_chk2 v17 v19), (k0_t5_loop v17 v19).OK := fun v17 v19 k0_hw2 => k0_hw2.2.2.2.2.2.1
theorem k0_mult3_dvd : ∀ (v17 : BitVec 32) (v19 : BitVec 32) (k0_hw2 : k0_chk2 v17 v19) (k0_t5 : Fin (k0_t5_loop v17 v19).trips), 512 ∣ (k0_mult3 v17 v19 k0_t5).toNat := fun v17 v19 k0_hw2 k0_t5 => k0_hw2.2.2.2.2.2.2.1 k0_t5
theorem k0_off16_inb : ∀ (v17 : BitVec 32) (v19 : BitVec 32) (k0_hw2 : k0_chk2 v17 v19) (k0_t5 : Fin (k0_t5_loop v17 v19).trips), ∀ a, (k0_off16 v17 v19 k0_t5) a + S2048.size a ≤ S393216.size a := fun v17 v19 k0_hw2 k0_t5 => k0_hw2.2.2.2.2.2.2.2.1 k0_t5
theorem k0_mult4_dvd : ∀ (v17 : BitVec 32) (v19 : BitVec 32) (k0_hw2 : k0_chk2 v17 v19) (k0_t5 : Fin (k0_t5_loop v17 v19).trips), 128 ∣ (k0_mult4 v17 v19 k0_t5).toNat := fun v17 v19 k0_hw2 k0_t5 => k0_hw2.2.2.2.2.2.2.2.2.1 k0_t5
theorem k0_off17_inb : ∀ (v17 : BitVec 32) (v19 : BitVec 32) (k0_hw2 : k0_chk2 v17 v19) (k0_t5 : Fin (k0_t5_loop v17 v19).trips), ∀ a, (k0_off17 v17 v19 k0_t5) a + S512.size a ≤ S98304.size a := fun v17 v19 k0_hw2 k0_t5 => k0_hw2.2.2.2.2.2.2.2.2.2.1 k0_t5
theorem k0_t7_ok : ∀ (v17 : BitVec 32) (v19 : BitVec 32) (k0_hw2 : k0_chk2 v17 v19), (k0_t7_loop v17 v19).OK := fun v17 v19 k0_hw2 => k0_hw2.2.2.2.2.2.2.2.2.2.2.1
theorem k0_mult5_dvd : ∀ (v17 : BitVec 32) (v19 : BitVec 32) (k0_hw2 : k0_chk2 v17 v19) (k0_t7 : Fin (k0_t7_loop v17 v19).trips), 512 ∣ (k0_mult5 v17 v19 k0_t7).toNat := fun v17 v19 k0_hw2 k0_t7 => k0_hw2.2.2.2.2.2.2.2.2.2.2.2.1 k0_t7
theorem k0_off24_inb : ∀ (v17 : BitVec 32) (v19 : BitVec 32) (k0_hw2 : k0_chk2 v17 v19) (k0_t7 : Fin (k0_t7_loop v17 v19).trips), ∀ a, (k0_off24 v17 v19 k0_t7) a + S2048.size a ≤ S393216.size a := fun v17 v19 k0_hw2 k0_t7 => k0_hw2.2.2.2.2.2.2.2.2.2.2.2.2.1 k0_t7
theorem k0_t9_ok : ∀ (v17 : BitVec 32) (v19 : BitVec 32) (k0_hw2 : k0_chk2 v17 v19), (k0_t9_loop v17 v19).OK := fun v17 v19 k0_hw2 => k0_hw2.2.2.2.2.2.2.2.2.2.2.2.2.2.1
theorem k0_mult6_dvd : ∀ (v17 : BitVec 32) (v19 : BitVec 32) (k0_hw2 : k0_chk2 v17 v19) (k0_t9 : Fin (k0_t9_loop v17 v19).trips), 512 ∣ (k0_mult6 v17 v19 k0_t9).toNat := fun v17 v19 k0_hw2 k0_t9 => k0_hw2.2.2.2.2.2.2.2.2.2.2.2.2.2.2.1 k0_t9
theorem k0_off29_inb : ∀ (v17 : BitVec 32) (v19 : BitVec 32) (k0_hw2 : k0_chk2 v17 v19) (k0_t9 : Fin (k0_t9_loop v17 v19).trips), ∀ a, (k0_off29 v17 v19 k0_t9) a + S2048.size a ≤ S393216.size a := fun v17 v19 k0_hw2 k0_t9 => k0_hw2.2.2.2.2.2.2.2.2.2.2.2.2.2.2.2 k0_t9

@[reducible] def k0_t10_loop : Scf.Loop 32 :=
  let c0_i32_44 : BitVec 32 := 0#32
  let c32_i32_45 : BitVec 32 := 32#32
  let v76 : BitVec 32 := Scalar.addi c0_i32_44 c32_i32_45
  let c1_i32_46 : BitVec 32 := 1#32
  ⟨c0_i32_44, v76, c1_i32_46⟩
def k0_off30 (k0_t10 : Fin k0_t10_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t10
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c0_i32_51 : BitVec 32 := 0#32
  let v83 : BitVec 32 := Scalar.addi v80 c0_i32_51
  let c7_i32 : BitVec 32 := 7#32
  let v81 : BitVec 32 := Scalar.andi v78 c7_i32
  let c16_i32 : BitVec 32 := 16#32
  let v82 : BitVec 32 := Scalar.muli v81 c16_i32
  let v84 : BitVec 32 := Scalar.addi v83 v82
  let v85 : Index := Scalar.indexCast v84
  ![v85.toNat]

def k0_chk15 (v96 : IVec S16 32) (v98 : IVec S16 32) : Prop :=
  (∀ a x, ((![v96, v98] : Fin 2 → IVec S16 32) a x).toNat < S320x128.size a)
theorem k0_idx14_inb : ∀ (v96 : IVec S16 32) (v98 : IVec S16 32) (k0_hw15 : k0_chk15 v96 v98), ∀ a x, ((![v96, v98] : Fin 2 → IVec S16 32) a x).toNat < S320x128.size a := fun v96 v98 k0_hw15 => k0_hw15
def k0_off31 (k0_t10 : Fin k0_t10_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t10
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c128_i32 : BitVec 32 := 128#32
  let v99 : BitVec 32 := Scalar.addi v80 c128_i32
  let c7_i32 : BitVec 32 := 7#32
  let v81 : BitVec 32 := Scalar.andi v78 c7_i32
  let c16_i32 : BitVec 32 := 16#32
  let v82 : BitVec 32 := Scalar.muli v81 c16_i32
  let v100 : BitVec 32 := Scalar.addi v99 v82
  let v101 : Index := Scalar.indexCast v100
  ![v101.toNat]

def k0_chk16 (v112 : IVec S16 32) (v114 : IVec S16 32) : Prop :=
  (∀ a x, ((![v112, v114] : Fin 2 → IVec S16 32) a x).toNat < S320x128.size a)
theorem k0_idx15_inb : ∀ (v112 : IVec S16 32) (v114 : IVec S16 32) (k0_hw16 : k0_chk16 v112 v114), ∀ a x, ((![v112, v114] : Fin 2 → IVec S16 32) a x).toNat < S320x128.size a := fun v112 v114 k0_hw16 => k0_hw16
def k0_off32 (k0_t10 : Fin k0_t10_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t10
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c256_i32 : BitVec 32 := 256#32
  let v115 : BitVec 32 := Scalar.addi v80 c256_i32
  let c7_i32 : BitVec 32 := 7#32
  let v81 : BitVec 32 := Scalar.andi v78 c7_i32
  let c16_i32 : BitVec 32 := 16#32
  let v82 : BitVec 32 := Scalar.muli v81 c16_i32
  let v116 : BitVec 32 := Scalar.addi v115 v82
  let v117 : Index := Scalar.indexCast v116
  ![v117.toNat]

def k0_chk17 (v128 : IVec S16 32) (v130 : IVec S16 32) : Prop :=
  (∀ a x, ((![v128, v130] : Fin 2 → IVec S16 32) a x).toNat < S320x128.size a)
theorem k0_idx16_inb : ∀ (v128 : IVec S16 32) (v130 : IVec S16 32) (k0_hw17 : k0_chk17 v128 v130), ∀ a x, ((![v128, v130] : Fin 2 → IVec S16 32) a x).toNat < S320x128.size a := fun v128 v130 k0_hw17 => k0_hw17
def k0_off33 (k0_t10 : Fin k0_t10_loop.trips) : Fin 1 → Nat :=
  let c0_i32_49 : BitVec 32 := 0#32
  let c0_i32_44 : BitVec 32 := 0#32
  let c1_i32_46 : BitVec 32 := 1#32
  let arg13 : BitVec 32 := Scf.iv c0_i32_44 c1_i32_46 k0_t10
  let c1_i32_48 : BitVec 32 := 1#32
  let v77 : BitVec 32 := Scalar.muli arg13 c1_i32_48
  let v78 : BitVec 32 := Scalar.addi c0_i32_49 v77
  let c3_i32 : BitVec 32 := 3#32
  let v79 : BitVec 32 := Scalar.shrsi v78 c3_i32
  let c512_i32_50 : BitVec 32 := 512#32
  let v80 : BitVec 32 := Scalar.muli v79 c512_i32_50
  let c384_i32 : BitVec 32 := 384#32
  let v131 : BitVec 32 := Scalar.addi v80 c384_i32
  let c7_i32 : BitVec 32 := 7#32
  let v81 : BitVec 32 := Scalar.andi v78 c7_i32
  let c16_i32 : BitVec 32 := 16#32
  let v82 : BitVec 32 := Scalar.muli v81 c16_i32
  let v132 : BitVec 32 := Scalar.addi v131 v82
  let v133 : Index := Scalar.indexCast v132
  ![v133.toNat]

def k0_chk18 (v144 : IVec S16 32) (v146 : IVec S16 32) : Prop :=
  (∀ a x, ((![v144, v146] : Fin 2 → IVec S16 32) a x).toNat < S320x128.size a)
theorem k0_idx17_inb : ∀ (v144 : IVec S16 32) (v146 : IVec S16 32) (k0_hw18 : k0_chk18 v144 v146), ∀ a x, ((![v144, v146] : Fin 2 → IVec S16 32) a x).toNat < S320x128.size a := fun v144 v146 k0_hw18 => k0_hw18
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReferenceIdeal.lean ====
abbrev S257 : Shape := ⟨1, ![257]⟩
abbrev S393216 : Shape := ⟨1, ![393216]⟩
abbrev S98304 : Shape := ⟨1, ![98304]⟩
abbrev S768x4x128 : Shape := ⟨3, ![768, 4, 128]⟩
abbrev S768x1x128 : Shape := ⟨3, ![768, 1, 128]⟩
abbrev S_ : Shape := ⟨0, ![]⟩
abbrev S256x40960x393216 : Shape := ⟨3, ![256, 40960, 393216]⟩
abbrev S256 : Shape := ⟨1, ![256]⟩
abbrev S256x1x1 : Shape := ⟨3, ![256, 1, 1]⟩
abbrev S1x1x393216 : Shape := ⟨3, ![1, 1, 393216]⟩
abbrev S256x40960 : Shape := ⟨2, ![256, 40960]⟩
abbrev S256x320x128 : Shape := ⟨3, ![256, 320, 128]⟩
abbrev S320x256x128 : Shape := ⟨3, ![320, 256, 128]⟩

abbrev nBuf : Space → Nat
  | .hbm => 68
  | .vmem => 0
  | .smem => 0
  | _ => 0

abbrev bufTy : (tb : Table) → Fin (tcTables nBuf tb) → BufTy
  | .hbm, ⟨0, _⟩ => ⟨S257, .i32⟩
  | .hbm, ⟨1, _⟩ => ⟨S393216, .i32⟩
  | .hbm, ⟨2, _⟩ => ⟨S98304, .i32⟩
  | .hbm, ⟨3, _⟩ => ⟨S768x4x128, .i32⟩
  | .hbm, ⟨4, _⟩ => ⟨S768x1x128, .i32⟩
  | .hbm, ⟨5, _⟩ => ⟨S_, .i32⟩
  | .hbm, ⟨6, _⟩ => ⟨S768x4x128, .i32⟩
  | .hbm, ⟨7, _⟩ => ⟨S768x4x128, .i32⟩
  | .hbm, ⟨8, _⟩ => ⟨S768x4x128, .i32⟩
  | .hbm, ⟨9, _⟩ => ⟨S768x4x128, .i32⟩
  | .hbm, ⟨10, _⟩ => ⟨S_, .i32⟩
  | .hbm, ⟨11, _⟩ => ⟨S768x4x128, .i32⟩
  | .hbm, ⟨12, _⟩ => ⟨S768x4x128, .i32⟩
  | .hbm, ⟨13, _⟩ => ⟨S393216, .i32⟩
  | .hbm, ⟨14, _⟩ => ⟨S_, .i32⟩
  | .hbm, ⟨15, _⟩ => ⟨S393216, .i32⟩
  | .hbm, ⟨16, _⟩ => ⟨S393216, .i32⟩
  | .hbm, ⟨17, _⟩ => ⟨S_, .i32⟩
  | .hbm, ⟨18, _⟩ => ⟨S393216, .i32⟩
  | .hbm, ⟨19, _⟩ => ⟨S393216, .i32⟩
  | .hbm, ⟨20, _⟩ => ⟨S_, .i32⟩
  | .hbm, ⟨21, _⟩ => ⟨S393216, .i32⟩
  | .hbm, ⟨22, _⟩ => ⟨S393216, .i32⟩
  | .hbm, ⟨23, _⟩ => ⟨S_, .i32⟩
  | .hbm, ⟨24, _⟩ => ⟨S393216, .i32⟩
  | .hbm, ⟨25, _⟩ => ⟨S393216, .i1⟩
  | .hbm, ⟨26, _⟩ => ⟨S_, .i32⟩
  | .hbm, ⟨27, _⟩ => ⟨S393216, .i32⟩
  | .hbm, ⟨28, _⟩ => ⟨S393216, .i32⟩
  | .hbm, ⟨29, _⟩ => ⟨S_, .i32⟩
  | .hbm, ⟨30, _⟩ => ⟨S393216, .i32⟩
  | .hbm, ⟨31, _⟩ => ⟨S393216, .i32⟩
  | .hbm, ⟨32, _⟩ => ⟨S393216, .i32⟩
  | .hbm, ⟨33, _⟩ => ⟨S393216, .i32⟩
  | .hbm, ⟨34, _⟩ => ⟨S393216, .f32⟩
  | .hbm, ⟨35, _⟩ => ⟨S_, .f32⟩
  | .hbm, ⟨36, _⟩ => ⟨S393216, .f32⟩
  | .hbm, ⟨37, _⟩ => ⟨S393216, .f32⟩
  | .hbm, ⟨38, _⟩ => ⟨S_, .i32⟩
  | .hbm, ⟨39, _⟩ => ⟨S393216, .i32⟩
  | .hbm, ⟨40, _⟩ => ⟨S393216, .i1⟩
  | .hbm, ⟨41, _⟩ => ⟨S393216, .f32⟩
  | .hbm, ⟨42, _⟩ => ⟨S393216, .f32⟩
  | .hbm, ⟨43, _⟩ => ⟨S256x40960x393216, .i32⟩
  | .hbm, ⟨44, _⟩ => ⟨S256, .i32⟩
  | .hbm, ⟨45, _⟩ => ⟨S256x1x1, .i32⟩
  | .hbm, ⟨46, _⟩ => ⟨S256x40960x393216, .i32⟩
  | .hbm, ⟨47, _⟩ => ⟨S256x40960x393216, .i1⟩
  | .hbm, ⟨48, _⟩ => ⟨S256, .i32⟩
  | .hbm, ⟨49, _⟩ => ⟨S256x1x1, .i32⟩
  | .hbm, ⟨50, _⟩ => ⟨S256x40960x393216, .i32⟩
  | .hbm, ⟨51, _⟩ => ⟨S256x40960x393216, .i1⟩
  | .hbm, ⟨52, _⟩ => ⟨S256x40960x393216, .i1⟩
  | .hbm, ⟨53, _⟩ => ⟨S1x1x393216, .i32⟩
  | .hbm, ⟨54, _⟩ => ⟨S256x40960x393216, .i32⟩
  | .hbm, ⟨55, _⟩ => ⟨S256x40960x393216, .i32⟩
  | .hbm, ⟨56, _⟩ => ⟨S256x40960x393216, .i1⟩
  | .hbm, ⟨57, _⟩ => ⟨S256x40960x393216, .i1⟩
  | .hbm, ⟨58, _⟩ => ⟨S1x1x393216, .f32⟩
  | .hbm, ⟨59, _⟩ => ⟨S_, .f32⟩
  | .hbm, ⟨60, _⟩ => ⟨S_, .f32⟩
  | .hbm, ⟨61, _⟩ => ⟨S256x40960x393216, .f32⟩
  | .hbm, ⟨62, _⟩ => ⟨S256x40960x393216, .f32⟩
  | .hbm, ⟨63, _⟩ => ⟨S256x40960x393216, .f32⟩
  | .hbm, ⟨64, _⟩ => ⟨S_, .f32⟩
  | .hbm, ⟨65, _⟩ => ⟨S256x40960, .f32⟩
  | .hbm, ⟨66, _⟩ => ⟨S256x320x128, .f32⟩
  | .hbm, ⟨67, _⟩ => ⟨S320x256x128, .f32⟩
  | _, _ => ⟨S257, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Block.lean ====
/- One grid point of the kernel, read at an index: an output block of eight column slabs, each the sum over the rows of
   the scaled operand times the matrix. The kernel splits a matrix entry into three parts (the entry, what its rounding
   left, and what that part's rounding left); with exact arithmetic the second and third are `a - a = 0`, for a finite entry. -/
module

public import proofs.«01_k».proof.Proof.Gen.KernelIdeal.Value
public import Idealize.ShloMosaic.Lib.Pointwise

@[expose] public section

noncomputable section

namespace Cert.KernelIdeal.Spmm

open Cert.KernelIdeal Cert.KernelIdeal.Gen Idealize.ShloMosaic Idealize.ShloMosaic.TcCoe Idealize.SL.Sem

/-- A finite extended real: neither infinity. -/
def Fin' (a : EReal) : Prop := a ≠ ⊤ ∧ a ≠ ⊥

theorem sub_self_of_fin {a : EReal} (h : Fin' a) : a - a = 0 := EReal.sub_self h.1 h.2

/-- What one column slab's payload computes of the scaled operand `xs` and the slab `v` of the matrix: three products, of
    the slab and of the two remainders its roundings leave, summed. -/
def slab (xs : FVec Ideal S192x256 .bf16) (v : Vec Ideal S1x256x128 .f32) : FVec Ideal S192x128 .bf16 := k0_pay2 xs v

/-- The slab's payload at an index: one sum of products, when the slab is finite. -/
theorem slab_apply (xs : FVec Ideal S192x256 .bf16) (v : Vec Ideal S1x256x128 .f32) (hv : ∀ i, Fin' (v i)) (j : S192x128.Idx) :
    slab xs v j = ∑ r : Fin 256, xs (ix2 (j 0) r) * v (ix3 0 r (j 1)) := by
  have h0 : ∀ r : Fin 256, v (ix3 0 r (j 1)) - v (ix3 0 r (j 1)) = 0 := fun r => sub_self_of_fin (hv _)
  pointwise [slab, k0_pay2, h0]
  simp [h0]

/-- The scaled operand: each row of the left operand times its scale. -/
theorem scaled_apply (x1 : Vec Ideal S192x256 .bf16) (x2 : Vec Ideal S1x256 .f32) (d : Fin 192) (r : Fin 256) :
    k0_pay3 x1 x2 (ix2 d r) = x1 (ix2 d r) * x2 (ix2 0 r) := by
  pointwise [k0_pay3]

/-- The output block at an index: the scaled operand's column against the column of the slab the index lies in. -/
def blockVal (x0 : Vec Ideal S8x256x128 .f32) (x1 : Vec Ideal S192x256 .bf16) (x2 : Vec Ideal S1x256 .f32) (y : S192x1024.Idx) : EReal :=
  ∑ r : Fin 256, x1 (ix2 (y 0) r) * x2 (ix2 0 r)
    * x0 (ix3 ⟨(y 1).val / 128, Nat.div_lt_of_lt_mul (y 1).isLt⟩ r ⟨(y 1).val % 128, Nat.mod_lt _ (by decide)⟩)

theorem hz : (![0, 0] : Fin 2 → Nat) = fun _ => 0 := funext fun a => by fin_cases a <;> rfl

/-- The scaled operand is formed of the two whole blocks. -/
theorem pay19_eq (x0 : Vec Ideal S8x256x128 .f32) (x1 : Vec Ideal S192x256 .bf16) (x2 : Vec Ideal S1x256 .f32) :
    k0_pay19 x0 x1 x2 = k0_pay3 x1 x2 := by
  unfold k0_pay19
  rw [View.ld_unit_zero hz, View.ld_unit_zero hz]

/-- A slab's payload is the block's value at column `128 h + l`, when it is read from slab `h` of the staged matrix. -/
theorem piece_apply (x0 : Vec Ideal S8x256x128 .f32) (x1 : Vec Ideal S192x256 .bf16) (x2 : Vec Ideal S1x256 .f32) (hx : ∀ i, Fin' (x0 i))
    (v : Vec Ideal S1x256x128 .f32) (h : Fin 8) (hv : ∀ i, v i = x0 (ix3 h (i 1) (i 2)))
    (j : S192x128.Idx) (y : S192x1024.Idx) (h0 : (y 0).val = (j 0).val) (h1 : (y 1).val = 128 * h.val + (j 1).val) :
    slab (k0_pay3 x1 x2) v j = blockVal x0 x1 x2 y := by
  have hj1 : (j 1).val < 128 := (j 1).isLt
  have e0 : y 0 = j 0 := Fin.ext h0
  have ed : (⟨(y 1).val / 128, Nat.div_lt_of_lt_mul (y 1).isLt⟩ : Fin 8) = h := Fin.ext (by dsimp only; omega)
  have em : (⟨(y 1).val % 128, Nat.mod_lt _ (by decide)⟩ : Fin 128) = j 1 := Fin.ext (by dsimp only; omega)
  rw [slab_apply _ _ (fun i => by rw [hv i]; exact hx _)]
  unfold blockVal
  rw [ed, em, e0]
  refine Finset.sum_congr rfl fun r _ => ?_
  exact congrArg₂ (· * ·) (scaled_apply x1 x2 (j 0) r) (hv _)

/-- The body's result at a grid point, index by index. -/
theorem out_apply (x0 : Vec Ideal S8x256x128 .f32) (x1 : Vec Ideal S192x256 .bf16) (x2 : Vec Ideal S1x256 .f32) (hx : ∀ i, Fin' (x0 i)) (y : S192x1024.Idx) :
    out0_3 x0 x1 x2 y = blockVal x0 x1 x2 y := by
  unfold out0_3
  rw [pay19_eq, View.ld_unit_zero hz, View.ld_unit_zero hz]
  refine View.canon_apply_of_pieces (Val := Elt Ideal) (e := .bf16) (blockVal x0 x1 x2) _ (fun p hp j => ?_) y (cover0_3 _ _ _ _ _ _ _ _ y)
  simp only [List.mem_cons, List.mem_nil_iff, or_false] at hp
  rcases hp with rfl | rfl | rfl | rfl | rfl | rfl | rfl | rfl
  · exact piece_apply x0 x1 x2 hx (View.ld x0 r0_16) 7 (fun i => by pointwise) j (r0_17.idx j) (by pointwise; try simp) (by pointwise; try simp)
  · exact piece_apply x0 x1 x2 hx (View.ld x0 r0_14) 6 (fun i => by pointwise) j (r0_15.idx j) (by pointwise; try simp) (by pointwise; try simp)
  · exact piece_apply x0 x1 x2 hx (View.ld x0 r0_12) 5 (fun i => by pointwise) j (r0_13.idx j) (by pointwise; try simp) (by pointwise; try simp)
  · exact piece_apply x0 x1 x2 hx (View.ld x0 r0_10) 4 (fun i => by pointwise) j (r0_11.idx j) (by pointwise; try simp) (by pointwise; try simp)
  · exact piece_apply x0 x1 x2 hx (View.ld x0 r0_8) 3 (fun i => by pointwise) j (r0_9.idx j) (by pointwise; try simp) (by pointwise; try simp)
  · exact piece_apply x0 x1 x2 hx (View.ld x0 r0_6) 2 (fun i => by pointwise) j (r0_7.idx j) (by pointwise; try simp) (by pointwise; try simp)
  · exact piece_apply x0 x1 x2 hx (View.ld x0 r0_4) 1 (fun i => by pointwise) j (r0_5.idx j) (by pointwise; try simp) (by pointwise; try simp)
  · exact piece_apply x0 x1 x2 hx (View.ld x0 r0_2) 0 (fun i => by pointwise) j (r0_3.idx j) (by pointwise; try simp) (by pointwise; try simp)

end Cert.KernelIdeal.Spmm

end
-- ==== Proof.Array.lean ====
/- The kernel's result array as one function of its arguments: entry (d, c) is the sum over the 256 rows of the scaled
   operand's entry times the matrix's, once every grid point's block (1024 columns, the last one cut at column 40000) is
   read back from what the point wrote. -/
module

public import proofs.«01_k».proof.Proof.Block

@[expose] public section

noncomputable section

namespace Cert.KernelIdeal.Spmm

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The three arguments of device `c`. -/
abbrev argX (c : Dev nD) : Vec Ideal S256x192 .bf16 := m ((c : Thread nD τ).loc main_arg0)
abbrev argA (c : Dev nD) : Vec Ideal S320x256x128 .f32 := m ((c : Thread nD τ).loc main_arg1)
abbrev argS (c : Dev nD) : Vec Ideal S256 .f32 := m ((c : Thread nD τ).loc main_arg2)

/-- The product at column `c`, of the matrix held in tiles of 128 columns. -/
def prodAt (x : Vec Ideal S256x192 .bf16) (a : Vec Ideal S320x256x128 .f32) (s : Vec Ideal S256 .f32) (i : S192x40000.Idx) : EReal :=
  ∑ r : Fin 256, x (ix2 r (i 0)) * s (ix1 r)
    * a (ix3 ⟨(i 1).val / 128, Nat.div_lt_of_lt_mul (Nat.lt_of_lt_of_le (i 1).isLt (by decide))⟩ r ⟨(i 1).val % 128, Nat.mod_lt _ (by decide)⟩)

/-- What the region finds in window 1's array: the left operand transposed. -/
theorem V_v3 (c : Dev nD) : V m c main_v3 = transpose S192x256 [1, 0] (argX m c) transposes_S256x192_S192x256_1_0 := by
  show StableHlo.after hostOps0 (fun b => m (c, b)) (Proc.devRef .tc main_v3) = _
  after_results

/-- The row scale laid out as one row. -/
def scaleRow (s : FVec Ideal S256 .f32) : FVec Ideal S1x256 .f32 :=
  shapeCast S1x256 (extf (F := Ideal) .f32 (truncf (F := Ideal) .bf16 s bitsLt_bf16_f32) bitsLt_bf16_f32) shapeCasts_S256_S1x256

/-- and in window 2's array: the row scale, as one row. -/
theorem V_v2 (c : Dev nD) : V m c main_v2 = scaleRow (argS m c) := by
  show StableHlo.after hostOps0 (fun b => m (c, b)) (Proc.devRef .tc main_v2) = _
  after_results <;> rfl

/-- The three input windows' blocks at a point. -/
abbrev blkA (c : Dev nD) (t : Fin cfg0.N) : Vec Ideal S8x256x128 .f32 := iblk m c 0 t
abbrev blkX (c : Dev nD) (t : Fin cfg0.N) : Vec Ideal S192x256 .bf16 := iblk m c 1 t
abbrev blkS (c : Dev nD) (t : Fin cfg0.N) : Vec Ideal S1x256 .f32 := iblk m c 2 t

/-- The windows' block indices at a point, decided over the grid. -/
theorem index_0 : ∀ t : Fin grid0.N, win0_0.index t 0 = t.val ∧ win0_0.index t 1 = 0 ∧ win0_0.index t 2 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = t.val ∧ win0_3.xsize (grid0.coords t) 0 = 192
    ∧ win0_3.xsize (grid0.coords t) 1 = min 1024 (40000 - 1024 * t.val) := by decide +kernel

theorem N_eq : grid0.N = 40 := by decide

theorem blkA_apply (c : Dev nD) (t : Fin cfg0.N) (h : Fin 8) (r : Fin 256) (l : Fin 128) (g : Fin 320) (hg : g.val = 8 * t.val + h.val) :
    blkA m c t (ix3 h r l) = argA m c (ix3 g r l) := by
  show V m c main_arg1 ((win0_0.rect t).idx (ix3 h r l)) = _
  rw [V_main_arg1]
  obtain ⟨e0, e1, e2⟩ := index_0 t
  refine congrArg (argA m c) (funext fun a => Fin.ext ?_)
  match a with
  | ⟨0, _⟩ => show win0_0.index t 0 * 8 + 1 * h.val = g.val; rw [e0]; omega
  | ⟨1, _⟩ => show win0_0.index t 1 * 256 + 1 * r.val = r.val; rw [e1]; omega
  | ⟨2, _⟩ => show win0_0.index t 2 * 128 + 1 * l.val = l.val; rw [e2]; omega

theorem blkX_apply (c : Dev nD) (t : Fin cfg0.N) (d : Fin 192) (r : Fin 256) :
    blkX m c t (ix2 d r) = argX m c (ix2 r d) := by
  show V m c main_v3 ((win0_1.rect t).idx (ix2 d r)) = _
  obtain ⟨e0, e1⟩ := index_1 t
  have e : (win0_1.rect t).idx (ix2 d r) = (ix2 d r : S192x256.Idx) := funext fun a => Fin.ext (by
    match a with
    | ⟨0, _⟩ => show win0_1.index t 0 * 192 + 1 * d.val = d.val; rw [e0]; omega
    | ⟨1, _⟩ => show win0_1.index t 1 * 256 + 1 * r.val = r.val; rw [e1]; omega)
  rw [V_v3]
  refine (congrArg _ e).trans ?_
  pointwise

theorem blkS_apply (c : Dev nD) (t : Fin cfg0.N) (r : Fin 256) :
    blkS m c t (ix2 0 r) = argS m c (ix1 r) := by
  show V m c main_v2 ((win0_2.rect t).idx (ix2 0 r)) = _
  obtain ⟨e0, e1⟩ := index_2 t
  have e : (win0_2.rect t).idx (ix2 0 r) = (ix2 0 r : S1x256.Idx) := funext fun a => Fin.ext (by
    match a with
    | ⟨0, _⟩ => show win0_2.index t 0 * 1 + 1 * 0 = 0; rw [e0]
    | ⟨1, _⟩ => show win0_2.index t 1 * 256 + 1 * r.val = r.val; rw [e1]; omega)
  rw [V_v2]
  refine (congrArg _ e).trans ?_
  pointwise [scaleRow]

/-- A point's block is finite when the matrix is. -/
theorem blkA_fin (c : Dev nD) (hA : ∀ i, Fin' (argA m c i)) (t : Fin cfg0.N) (i : S8x256x128.Idx) : Fin' (blkA m c t i) := by
  have h0 : (i 0).val < 8 := (i 0).isLt
  have ht : t.val < 40 := Nat.lt_of_lt_of_eq t.isLt N_eq
  have ei : i = ix3 (i 0) (i 1) (i 2) := by idx_ext
  exact (congrArg Fin' ((congrArg (blkA m c t) ei).trans
    (blkA_apply m c t (i 0) (i 1) (i 2) ⟨8 * t.val + (i 0).val, by omega⟩ rfl))).mpr (hA _)

/-- A point's result at column `k` of its block is the product at the array's column. -/
theorem out_prod (c : Dev nD) (hA : ∀ i, Fin' (argA m c i)) (t : Fin cfg0.N) (z : S192x1024.Idx) (i : S192x40000.Idx)
    (i0 : (i 0).val = (z 0).val) (i1 : (i 1).val = 1024 * t.val + (z 1).val) :
    out0_3 (blkA m c t) (blkX m c t) (blkS m c t) z = prodAt (argX m c) (argA m c) (argS m c) i := by
  refine (out_apply _ _ _ (blkA_fin m c hA t) z).trans ?_
  unfold blockVal prodAt
  have hz1 : (z 1).val < 1024 := (z 1).isLt
  have ht : t.val < 40 := Nat.lt_of_lt_of_eq t.isLt N_eq
  have e0 : z 0 = i 0 := Fin.ext i0.symm
  refine Finset.sum_congr rfl fun r _ => congrArg₂ (· * ·) (congrArg₂ (· * ·) ?_ (blkS_apply m c t r)) ?_
  · exact (blkX_apply m c t (z 0) r).trans (congrArg (fun q : Fin 192 => argX m c (ix2 r q)) e0)
  · have eg : (i 1).val / 128 = 8 * t.val + (z 1).val / 128 := by omega
    have el : (⟨(z 1).val % 128, Nat.mod_lt _ (by decide)⟩ : Fin 128) = ⟨(i 1).val % 128, Nat.mod_lt _ (by decide)⟩ := Fin.ext (by dsimp only; omega)
    refine (blkA_apply m c t _ r _ ⟨(i 1).val / 128, by omega⟩ eg).trans ?_
    exact congrArg (fun q : Fin 128 => argA m c (ix3 ⟨(i 1).val / 128, by omega⟩ r q)) el

/-- What a point writes back is its block of the product. -/
theorem flushed_eq (c : Dev nD) (hA : ∀ i, Fin' (argA m c i)) (t : Fin cfg0.N) :
    (dats m 0 c).flushed 3 t = ((cfg0.win 3).blk t).view.read (Elt Ideal) (prodAt (argX m c) (argA m c) (argS m c)) := by
  rw [Value.flushed3]
  obtain ⟨e0, e1, x0, x1⟩ := index_3 t
  funext y
  refine out_prod m c hA t _ _ ?_ ?_
  · show win0_3.index t 0 * 192 + 1 * (y 0).val = _
    rw [e0, Nat.zero_mul, Nat.zero_add, Nat.one_mul]
  · show win0_3.index t 1 * 1024 + 1 * (y 1).val = _
    rw [e1, Nat.mul_comm, Nat.one_mul]

/-- Every column below 40000 is in the block of the point its thousand-and-twenty-fours name. -/
theorem cover (i : S192x40000.Idx) : ∃ t : Fin cfg0.N, (cfg0.win 3).flush t = true ∧ i ∈ ((cfg0.win 3).blk t).view.set := by
  have h0 : (i 0).val < 192 := (i 0).isLt
  have h1 : (i 1).val < 40000 := (i 1).isLt
  have ht : (i 1).val / 1024 < grid0.N := by rw [N_eq]; omega
  refine ⟨⟨(i 1).val / 1024, ht⟩, flush0_3 _, ?_⟩
  obtain ⟨e0, e1, x0, x1⟩ := index_3 ⟨(i 1).val / 1024, ht⟩
  show i ∈ ((View.whole main_v4).slice (win0_3.rect ⟨(i 1).val / 1024, ht⟩)).set
  rw [View.set_slice_whole, Rect.mem_set_unit]
  intro a
  match a with
  | ⟨0, _⟩ =>
    show win0_3.index ⟨(i 1).val / 1024, ht⟩ 0 * 192 ≤ (i 0).val ∧ (i 0).val < win0_3.index ⟨(i 1).val / 1024, ht⟩ 0 * 192 + win0_3.xsize (grid0.coords ⟨(i 1).val / 1024, ht⟩) 0
    rw [e0, x0]; omega
  | ⟨1, _⟩ =>
    show win0_3.index ⟨(i 1).val / 1024, ht⟩ 1 * 1024 ≤ (i 1).val ∧ (i 1).val < win0_3.index ⟨(i 1).val / 1024, ht⟩ 1 * 1024 + win0_3.xsize (grid0.coords ⟨(i 1).val / 1024, ht⟩) 1
    rw [e1, x1]; dsimp only; omega

/-- The result array after the run is the product. -/
theorem final (c : Dev nD) (hA : ∀ i, Fin' (argA m c i)) :
    (dats m 0 c).arrAt 3 cfg0.N = prodAt (argX m c) (argA m c) (argS m c) :=
  (dats m 0 c).arrAt_eq_of_cover 3 (prodAt (argX m c) (argA m c) (argS m c)) (fun t _ => flushed_eq m c hA t) cover

end Cert.KernelIdeal.Spmm

end
-- ==== Proof.Ref.lean ====
/- The reference's result at an index, and that it is the kernel's product: the two multiply the same three factors in
   another order. -/
module

public import proofs.«01_k».proof.Proof.Array
public import proofs.«01_k».proof.Proof.Gen.ReferenceIdeal.Run

@[expose] public section

noncomputable section

namespace Cert.ReferenceIdeal.Spmm

open Cert.ReferenceIdeal Cert.ReferenceIdeal.Gen Idealize.ShloMosaic Idealize.ShloMosaic.TcCoe Idealize.SL.Sem

/-- The reference's result of its three arguments. -/
def refVal (x : FVec Ideal S256x192 .bf16) (a : FVec Ideal S320x256x128 .f32) (s : FVec Ideal S256 .f32) : FVec Ideal S192x40000 .bf16 :=
  truncf .bf16 (Host.dotGeneral dot_S256x192_S256x40000_S192x40000_0_0_1_1_n_n none (extf .f32 x bitsLt_bf16_f32) (extf .f32 (mulf (truncf .bf16 (extractStridedSlice S256x40000 ![0, 0] (shapeCast _ (transpose S256x320x128 [1, 0, 2] a transposes_S320x256x128_S256x320x128_1_0_2) shapeCasts_S256x320x128_S256x40960) slices_S256x40960_S256x40000_0_0) bitsLt_bf16_f32) (broadcastInDim S256x40000 ![0, 1] bcast_S256x1_S256x40000_0_1 (broadcastInDim S256x1 ![0] bcast_S256_S256x1_0 (truncf .bf16 s bitsLt_bf16_f32)))) bitsLt_bf16_f32)) bitsLt_bf16_f32

/-- It is the product the kernel computes. -/
theorem refVal_apply (x : FVec Ideal S256x192 .bf16) (a : FVec Ideal S320x256x128 .f32) (s : FVec Ideal S256 .f32) (i : S192x40000.Idx) :
    refVal x a s i = Cert.KernelIdeal.Spmm.prodAt x a s i := by
  pointwise [refVal, Cert.KernelIdeal.Spmm.prodAt]
  exact Finset.sum_congr rfl fun r _ => by rw [mul_comm (a _), mul_assoc]

end Cert.ReferenceIdeal.Spmm

end
-- ==== Proof.Finite.lean ====
/- What the precondition says: every entry of the matrix is finite. -/
module

public import proofs.«01_k».proof.Defs
public import proofs.«01_k».proof.Proof.Block
public import Idealize.ShloMosaic.Lib.ReduceAll

@[expose] public section

noncomputable section

namespace Cert.Pre_finite_matrix

open Idealize.ShloMosaic Cert.KernelIdeal.Spmm

/-- The precondition's stated facts. -/
theorem facts : Facts where
  bcast_S_S320x256x128 := by decide
  reducesTo_S320x256x128_S_d0_1_2 := by decide
  h_S_ := by decide

variable [Facts]

/-- The constant the entries are compared with is the infinity. -/
theorem inf_eq : Ideal.ofBits .f32 0x7F800000#32 = (⊤ : EReal) := by
  simp [Ideal.ofBits, Ideal.ieee]

/-- An entry whose absolute value is below the infinity is finite. -/
theorem fin_of_abs_lt {a : EReal} (h : max a (-a) < ⊤) : Fin' a := by
  refine ⟨fun e => ?_, fun e => ?_⟩ <;> subst e <;> simp at h

/-- Where the precondition is true every entry is finite. -/
theorem fin_of_fn (x : FVec Ideal S256x192 .bf16) (a : FVec Ideal S320x256x128 .f32) (s : FVec Ideal S256 .f32)
    (h : fn x a s = fun _ => 1#1) (i : S320x256x128.Idx) : Fin' (a i) := by
  have hs : Subsingleton S_.Idx := ⟨fun p q => funext fun k => k.elim0⟩
  have h1 := congrFun h (fun k => k.elim0)
  unfold fn at h1
  dsimp only at h1
  have h2 := Host.reduce_andi_all _ _ _ _ _ h1 i
  pointwise at h2
  have h3 : BitVec.ofBool (decide (max (a i) (-(a i)) < Ideal.ofBits .f32 0x7F800000#32)) = 1#1 := h2
  have h4 : ∀ b : Bool, BitVec.ofBool b = 1#1 → b = true := by decide
  exact fin_of_abs_lt ((of_decide_eq_true (h4 _ h3)).trans_eq inf_eq)

end Cert.Pre_finite_matrix

end
-- ==== Proof.ScPre.lean ====
/- What the precondition of the scatter says: the row bounds are places among the stored entries, the columns are columns of
   the matrix. -/
module

public import proofs.«01_k».proof.Defs
public import Idealize.ShloMosaic.Lib.ReduceAll
public import Idealize.ShloMosaic.Lib.Pointwise

@[expose] public section

noncomputable section

namespace Cert.Pre_stored_entries

open Idealize.ShloMosaic

/-- The precondition's stated facts. -/
theorem facts : Facts where
  bcast_S_S257 := by decide
  reducesTo_S257_S_d0 := by decide
  h_S_ := by decide
  bcast_S_S393216 := by decide
  reducesTo_S393216_S_d0 := by decide

variable [Facts]

/-- A word between two bounds as signed numbers is between them as a natural number. -/
theorem le_of_bits {y : BitVec 32} {B : ℕ} (hB : B < 2147483648)
    (h : (0#32).sle y = true) (h' : y.sle (BitVec.ofNat 32 B) = true) : y.toNat ≤ B := by
  rw [BitVec.sle_eq_decide, decide_eq_true_iff] at h h'
  have e : (BitVec.ofNat 32 B).toInt = (B : ℤ) := by
    rw [BitVec.toInt_eq_toNat_cond, BitVec.toNat_ofNat, Nat.mod_eq_of_lt (by omega), if_pos (by omega)]
  rw [e] at h'
  have hz : (0#32 : BitVec 32).toInt = 0 := rfl
  rw [hz] at h
  have := BitVec.toInt_eq_toNat_cond y
  split at this <;> omega

theorem and_one {a b : BitVec 1} (h : IntOp.andi a b = 1#1) : a = 1#1 ∧ b = 1#1 := by
  revert a b; decide

theorem ofBool_one {b : Bool} (h : BitVec.ofBool b = 1#1) : b = true := by
  cases b
  · exact absurd h (by decide)
  · rfl

/-- Where the precondition is true the bounds and the columns are in range. -/
theorem range_of_fn {F : FTy → Type} [FloatOps F] (p : IVec S257 32) (x : IVec S393216 32) (w : IVec S98304 32) (h : fn (F := F) p x w = fun _ => 1#1) :
    (∀ j, (p j).toNat ≤ 393216) ∧ ∀ j, (x j).toNat ≤ 40959 := by
  have hs : Subsingleton S_.Idx := ⟨fun p q => funext fun k => k.elim0⟩
  have h1 := congrFun h (fun k => k.elim0)
  unfold fn at h1
  dsimp only at h1
  obtain ⟨ha, hb⟩ := and_one h1
  constructor
  · intro j
    have h2 := Host.reduce_andi_all _ _ _ _ _ ha j
    pointwise at h2
    obtain ⟨h3, h4⟩ := and_one h2
    exact le_of_bits (B := 393216) (by decide) (ofBool_one h3) (ofBool_one h4)
  · intro j
    have h2 := Host.reduce_andi_all _ _ _ _ _ hb j
    pointwise at h2
    obtain ⟨h3, h4⟩ := and_one h2
    have h5 : (x j).slt 40960#32 = true := ofBool_one h4
    refine le_of_bits (B := 40959) (by decide) (ofBool_one h3) ?_
    rw [BitVec.slt_eq_decide, decide_eq_true_iff] at h5
    rw [BitVec.sle_eq_decide, decide_eq_true_iff]
    have e1 : (40960#32 : BitVec 32).toInt = 40960 := rfl
    have e2 : (BitVec.ofNat 32 40959).toInt = 40959 := rfl
    rw [e1] at h5
    rw [e2]
    omega

end Cert.Pre_stored_entries

end

end
-- ==== Proof.ScBounds.lean ====
module

public import Idealize.ShloMosaic.Lib.Affine
public import Idealize.ShloMosaic.Lib.LoopRemainder
public import Idealize.ShloMosaic.Lib.Tactic
public import proofs.«01_k».proof.Proof.Gen.ScatterIdeal

/-!
The whole-number arithmetic of the SparseCore kernel: for a row whose entries are `[a, b)`, where its chunks start,
how many there are, and that every chunk it fetches lies inside the arrays.
-/

@[expose] public section

namespace Cert.ScatterIdeal.ScP

open Cert.ScatterIdeal Cert.ScatterIdeal.Gen
open Idealize.ShloMosaic Idealize.ShloMosaic.Affine

/-- A negative number divided by 2048, rounding to zero: not positive. -/
theorem divsi_neg {x : BitVec 32} {e : Int} (hx : IsInt x e) (he : e < 0) (hl : -2 ^ 31 ≤ e) :
    ∃ n : Int, IsInt (Scalar.divsi x 2048#32) n ∧ -2 ^ 31 ≤ n ∧ n ≤ 0 := by
  have hc : ¬IntOp.SDivCorner x 2048#32 := by
    rintro (h0 | ⟨-, h1⟩)
    · exact absurd h0 (by decide)
    · exact absurd h1 (by decide)
  have hd : Scalar.divsi x 2048#32 = x.sdiv 2048#32 := by
    rw [Scalar.divsi, IntOp.divsi, if_neg hc]
  refine ⟨(x.sdiv 2048#32).toInt, ?_, ?_, ?_⟩
  · rw [hd]; exact word _
  · exact (word_range _).1
  · have h : (x.sdiv 2048#32).toInt = x.toInt.tdiv (2048#32 : BitVec 32).toInt := by
      apply BitVec.toInt_sdiv_of_ne_or_ne
      right; decide
    have h2 : (2048#32 : BitVec 32).toInt = 2048 := by decide
    unfold IsInt at hx
    rw [h, h2, hx]
    have : (-e).tdiv 2048 = -(e.tdiv 2048) := Int.neg_tdiv ..
    have h3 : 0 ≤ (-e).tdiv 2048 := Int.tdiv_nonneg (by omega) (by omega)
    omega

/-- The word of the first chunk's start: the row's first position rounded down to a multiple of 512, as the kernel
    computes it (a division corrected towards minus infinity). -/
def baseW (x : BitVec 32) : BitVec 32 :=
  Scalar.muli (Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)) 512#32

theorem baseW_int {x : BitVec 32} {a : Nat} (hx : IsInt x a) (ha : a ≤ 393216) : IsInt (baseW x) ((a / 512 * 512 : Nat) : Int) := by
  have h0 : IsInt 0#32 0 := ofNat 0 (by decide)
  have h512 : IsInt 512#32 512 := ofNat 512 (by decide)
  have hq : IsInt (Scalar.divsi x 512#32) ((a : Int) / 512) := divsi hx h512 ⟨rfl, by omega, by omega⟩
  have hr : IsInt (Scalar.remsi x 512#32) ((a : Int) % 512) := remsi hx h512 ⟨rfl, by omega, by omega⟩
  have hq1 : IsInt (Scalar.subi (Scalar.divsi x 512#32) 1#32) ((a : Int) / 512 - 1) :=
    subi hq (ofNat 1 (by decide)) ⟨rfl, by omega, by omega⟩
  have hs : IsInt (Scalar.subi (Scalar.extui (Scalar.cmpi .sgt 512#32 0#32)) (Scalar.extui (Scalar.cmpi .slt 512#32 0#32)) : BitVec 32) 1 :=
    subi (extui_holds (sgt_holds h512 h0 (by decide)) rfl) (extui_fails (slt_fails h512 h0 (by decide)) rfl) (by decide)
  have hn : IsInt (Scalar.extui (Scalar.cmpi .slt x 0#32) : BitVec 32) 0 := extui_fails (slt_fails hx h0 (by omega)) rfl
  refine muli (select_fails ?_ hq1 hq rfl) h512 ⟨by omega, by omega, by omega⟩
  by_cases h : a = 0
  · exact andi_fails_right trivial (ne_fails hr h0 (by omega))
  · exact andi_fails_left (ne_fails (subi (e := 1) (extui_holds (sgt_holds hx h0 (by omega)) rfl) hn (by decide)) hs rfl) trivial

/-- The word of the number of chunks of the row. -/
def cntW (x y : BitVec 32) : BitVec 32 :=
  Scalar.divsi (Scalar.addi (Scalar.subi y (baseW x)) 2047#32) 2048#32

/-- The number of chunks: none for a row that ends before its first chunk starts. -/
def cnt (a b : Nat) : Nat := (b + 2047 - a / 512 * 512) / 2048

theorem cntW_int {x y : BitVec 32} {a b : Nat} (hx : IsInt x a) (hy : IsInt y b) (ha : a ≤ 393216) (hb : b ≤ 393216) :
    ∃ n : Int, IsInt (cntW x y) n ∧ -2 ^ 31 ≤ n ∧ n ≤ 200 ∧ n.toNat = cnt a b := by
  have h : IsInt (Scalar.addi (Scalar.subi y (baseW x)) 2047#32) ((b : Int) - (a / 512 * 512 : Nat) + 2047) :=
    addi (subi hy (baseW_int hx ha) ⟨rfl, by omega, by omega⟩) (ofNat 2047 (by decide)) ⟨rfl, by omega, by omega⟩
  by_cases hneg : (b : Int) - (a / 512 * 512 : Nat) + 2047 < 0
  · obtain ⟨n, h1, h2, h3⟩ := divsi_neg h hneg (by omega)
    exact ⟨n, h1, h2, by omega, by unfold cnt; omega⟩
  · exact ⟨_, divsi h (ofNat 2048 (by decide) (e := 2048)) ⟨rfl, by omega, by omega⟩, by omega, by omega, by unfold cnt; omega⟩

/-- The upper bound of the loop over the chunks. -/
def ubW (x y : BitVec 32) : BitVec 32 :=
  Scalar.addi 0#32 (Scalar.muli (Scalar.divsi (Scalar.subi (Scalar.divsi (Scalar.addi (Scalar.subi (cntW x y) 0#32) (Scalar.subi 1#32 1#32)) 1#32) 0#32) 1#32) 1#32)

theorem ubW_int {x y : BitVec 32} {n : Int} (h : IsInt (cntW x y) n) (hl : -2 ^ 31 ≤ n) (hu : n ≤ 200) : IsInt (ubW x y) n := by
  have h0 : IsInt 0#32 0 := ofNat 0 (by decide)
  have h1 : IsInt 1#32 1 := ofNat 1 (by decide)
  exact addi h0 (muli (divsi_one (subi (divsi_one (addi (subi h h0 ⟨rfl, by omega, by omega⟩)
    (subi h1 h1 ⟨rfl, by omega, by omega⟩) ⟨rfl, by omega, by omega⟩) h1 ⟨rfl, rfl⟩) h0 ⟨rfl, by omega, by omega⟩) h1 ⟨rfl, rfl⟩)
    h1 ⟨rfl, by omega, by omega⟩) ⟨by omega, by omega, by omega⟩

theorem t3_eq (x y : BitVec 32) : k0_t3_loop x y = ⟨0#32, ubW x y, 1#32⟩ := rfl
theorem t7_eq (x y : BitVec 32) : k0_t7_loop x y = ⟨0#32, ubW x y, 1#32⟩ := rfl

section
variable {x y : BitVec 32} {a b : Nat} (hx : IsInt x a) (hy : IsInt y b) (ha : a ≤ 393216) (hb : b ≤ 393216)
include hx hy ha hb

theorem loop_ok : Scf.OK 0#32 (ubW x y) 1#32 := by
  obtain ⟨n, h, h1, h2, -⟩ := cntW_int hx hy ha hb
  exact ok (ofNat 0 (by decide) (e := 0)) (ubW_int h h1 h2) (ofNat 1 (by decide) (e := 1)) ⟨by omega, by omega⟩

theorem loop_trips : Scf.trips 0#32 (ubW x y) 1#32 = cnt a b := by
  obtain ⟨n, h, h1, h2, h3⟩ := cntW_int hx hy ha hb
  have hu := ubW_int h h1 h2
  generalize ubW x y = u at hu ⊢
  generalize cnt a b = c at h3 ⊢
  by_cases h0 : 0 ≤ n
  · exact trips_eq (ofNat 0 (by decide) (e := 0)) hu (ofNat 1 (by decide) (e := 1)) c ⟨by omega, by omega⟩
  · have := trips_le (ofNat 0 (by decide) (e := 0)) hu (ofNat 1 (by decide) (e := 1)) 0 ⟨by omega, by omega⟩
    omega

end

/-- The position a chunk starts at before it is kept inside the array, and the word of it. -/
def pos0W (x : BitVec 32) (k : Nat) : BitVec 32 :=
  Scalar.addi (baseW x) (Scalar.muli (Scalar.addi 0#32 (Scalar.muli (Scf.iv 0#32 1#32 k) 1#32)) 2048#32)
def pos0 (a k : Nat) : Nat := a / 512 * 512 + 2048 * k
def offW (x : BitVec 32) (k : Nat) : BitVec 32 := Scalar.minsi (pos0W x k) 391168#32
def off (a k : Nat) : Nat := min (pos0 a k) 391168
def loW (x : BitVec 32) (k : Nat) : BitVec 32 := Scalar.maxsi (pos0W x k) x
def lo (a k : Nat) : Nat := max (pos0 a k) a
def hiW (x y : BitVec 32) (k : Nat) : BitVec 32 := Scalar.minsi (Scalar.addi (offW x k) 2048#32) y
def hi (a b k : Nat) : Nat := min (off a k + 2048) b

section
variable {x y : BitVec 32} {a b : Nat} (hx : IsInt x a) (hy : IsInt y b) (ha : a ≤ 393216) (hb : b ≤ 393216) {k : Nat} (hk : k ≤ 200)
include hx ha hk

theorem pos0W_int : IsInt (pos0W x k) (pos0 a k : Int) := by
  have h0 : IsInt 0#32 0 := ofNat 0 (by decide)
  have h1 : IsInt 1#32 1 := ofNat 1 (by decide)
  have hi : IsInt (Scf.iv 0#32 1#32 k) (k : Int) := iv h0 h1 k ⟨by omega, by omega, by omega⟩
  exact addi (baseW_int hx ha) (muli (addi h0 (muli hi h1 ⟨rfl, by omega, by omega⟩) ⟨rfl, by omega, by omega⟩)
    (ofNat 2048 (by decide) (e := 2048)) ⟨rfl, by omega, by omega⟩) ⟨by unfold pos0; omega, by unfold pos0; omega, by unfold pos0; omega⟩

theorem offW_int : IsInt (offW x k) (off a k : Int) :=
  minsi (pos0W_int hx ha hk) (ofNat 391168 (by decide) (e := 391168)) (by unfold off; omega)

theorem loW_int : IsInt (loW x k) (lo a k : Int) := maxsi (pos0W_int hx ha hk) hx (by unfold lo; omega)

include hy in
theorem hiW_int : IsInt (hiW x y k) (hi a b k : Int) :=
  minsi (addi (offW_int hx ha hk) (ofNat 2048 (by decide) (e := 2048)) ⟨rfl, by unfold off; omega, by unfold off; omega⟩) hy (by unfold hi; omega)

theorem shr_int : IsInt (Scalar.shrsi (offW x k) 2#32) ((off a k / 4 : Nat) : Int) :=
  shrsi (offW_int hx ha hk) (ofNat 2 (by decide) (e := 2)) 2 4 (by decide) ⟨by omega, by omega, by omega⟩

end

theorem off_dvd (a k : Nat) : 512 ∣ off a k := by unfold off pos0; omega
theorem off_le (a k : Nat) : off a k ≤ 391168 := by unfold off; omega

section
variable {x y : BitVec 32} {a b : Nat} (hx : IsInt x a) (hy : IsInt y b) (ha : a ≤ 393216) (hb : b ≤ 393216)
include hx hy ha hb

theorem k_lt {k : Nat} (hk : k < Scf.trips 0#32 (ubW x y) 1#32) : k ≤ 200 := by
  rw [loop_trips hx hy ha hb] at hk; unfold cnt at hk; omega

theorem off9_eq (k : Fin (k0_t3_loop x y).trips) : k0_off9 x y k = ![off a k.val] :=
  vec_cons (offW_int hx ha (k_lt hx hy ha hb k.isLt)) rfl vec_nil

theorem off24_eq (k : Fin (k0_t7_loop x y).trips) : k0_off24 x y k = ![off a k.val] :=
  vec_cons (offW_int hx ha (k_lt hx hy ha hb k.isLt)) rfl vec_nil

theorem off10_eq (k : Fin (k0_t3_loop x y).trips) : k0_off10 x y k = ![off a k.val / 4] :=
  vec_cons (shr_int hx ha (k_lt hx hy ha hb k.isLt)) rfl vec_nil

/-- The kernel's second check: every chunk of the row lies inside the arrays, at a multiple of the tile. -/
theorem chk2 : k0_chk2 x y := by
  have hko : ∀ {k : Nat}, k < Scf.trips 0#32 (ubW x y) 1#32 → IsInt (offW x k) (off a k : Int) := fun hk => offW_int hx ha (k_lt hx hy ha hb hk)
  refine ⟨loop_ok hx hy ha hb, fun k => ?_, fun k a' => ?_, fun k => ?_, fun k a' => ?_, ?_, fun k => ?_, fun k => ?_, fun k => ?_, fun k => ?_,
    loop_ok hx hy ha hb, fun k => ?_, fun k a' => ?_, ?_, fun k => ?_, fun k => ?_⟩
  · exact dvd_of (hko k.isLt) 512 ⟨by have := off_dvd a k.val; omega, by omega⟩
  · rw [off9_eq hx hy ha hb]; obtain rfl := Fin.eq_zero a'; have := off_le a k.val; show off a k.val + 2048 ≤ 393216; omega
  · exact dvd_of (shr_int hx ha (k_lt hx hy ha hb k.isLt)) 128 ⟨by have := off_dvd a k.val; omega, by omega⟩
  · rw [off10_eq hx hy ha hb]; obtain rfl := Fin.eq_zero a'; have := off_le a k.val; show off a k.val / 4 + 512 ≤ 98304; omega
  · exact Scf.rem_ok _ _
  · exact (Scf.rem_no_trip _ _ k).elim
  · exact (Scf.rem_no_trip _ _ k).elim
  · exact (Scf.rem_no_trip _ _ k).elim
  · exact (Scf.rem_no_trip _ _ k).elim
  · exact dvd_of (hko k.isLt) 512 ⟨by have := off_dvd a k.val; omega, by omega⟩
  · rw [off24_eq hx hy ha hb]; obtain rfl := Fin.eq_zero a'; have := off_le a k.val; show off a k.val + 2048 ≤ 393216; omega
  · exact Scf.rem_ok _ _
  · exact (Scf.rem_no_trip _ _ k).elim
  · exact (Scf.rem_no_trip _ _ k).elim

end

end Cert.ScatterIdeal.ScP

end
-- ==== Proof.ScFold.lean ====
module

public import proofs.«01_k».proof.Proof.ScBounds

/-!
What the row scratch of the SparseCore kernel holds after any number of the entries it visits, and that the kernel's
masked scatter of sixteen entries is sixteen steps of that.
-/

@[expose] public section

noncomputable section

namespace Cert.ScatterIdeal.ScP

open Cert.ScatterIdeal Cert.ScatterIdeal.Gen
open Idealize.ShloMosaic Idealize.ShloMosaic.Affine

/-- A table after `n` entries: entry `n` changes the places it hits, by `u n`. -/
def st {ι α : Type} (hit : ℕ → ι → Bool) (u : ℕ → α → α) (f : ι → α) : ℕ → ι → α
  | 0 => f
  | n + 1 => fun i => if hit n i = true then u n (st hit u f n i) else st hit u f n i

theorem foldl_finRange {α : Type} : ∀ (m : ℕ) (g : α → Fin m → α) (s : ℕ → α), (∀ k : Fin m, g (s k.val) k = s (k.val + 1)) →
    (List.finRange m).foldl g (s 0) = s m
  | 0, _, _, _ => by simp
  | m + 1, g, s, h => by
    rw [List.finRange_succ_last, List.foldl_append, List.foldl_map,
      foldl_finRange m (fun a k => g a k.castSucc) s fun k => h k.castSucc]
    exact h (Fin.last m)

variable {F : FTy → Type} [FloatOps F]

/-- Lane `l` of sixteen. -/
abbrev ln (l : Fin 16) : S16.Idx := Shape.ofLane (d := ![16]) l

/-- The kernel's scatter of sixteen lanes is sixteen steps of the table, when lane `l` is entry `n + l`. -/
theorem storeIdx_st {f f0 : Vec F S320x128 .f32} {hit : ℕ → S320x128.Idx → Bool} {u : ℕ → Elt F .f32 → Elt F .f32} {n : ℕ}
    {idxs : Fin 2 → IVec S16 32} {v : Vec F S16 .f32} {mask : IVec S16 1} {add : Bool} {h : ∀ a x, (idxs a x).toNat < S320x128.size a}
    (hf : f = st hit u f0 n)
    (hh : ∀ (l : Fin 16) i, hit (n + l.val) i = true ↔ mask (ln l) = 1 ∧ ∀ a, (i a).val = (idxs a (ln l)).toNat)
    (hu : ∀ (l : Fin 16) y, mask (ln l) = 1 → u (n + l.val) y =
      if add then Elt.idxAdd .f32 y (v (ln l)) else v (ln l)) :
    storeIdx (d := ![16]) f idxs v mask add h = st hit u f0 (n + 16) := by
  subst hf
  refine foldl_finRange 16 _ (fun k => st hit u f0 (n + k)) fun k => ?_
  funext i
  show _ = if hit (n + k.val) i = true then u (n + k.val) (st hit u f0 (n + k.val) i) else st hit u f0 (n + k.val) i
  by_cases hm : mask (ln k) = 1
  · rw [if_pos hm]
    by_cases hi : ∀ a, (i a).val = (idxs a (ln k)).toNat
    · rw [if_pos ((hh k i).2 ⟨hm, hi⟩), hu k _ hm]
      have e : idxAt idxs h (ln k) = i := funext fun a => Fin.ext (hi a).symm
      dsimp only
      rw [e, if_pos fun a => rfl]
    · rw [if_neg fun h' => hi ((hh k i).1 h').2]
      exact if_neg hi
  · rw [if_neg hm, if_neg fun h' => hm ((hh k i).1 h').1]

/-! ### One lane -/

theorem iota_lane (l : Fin 16) : (iota .scVector S16 32 [0] iota_S16_d0_w32_scVector : IVec S16 32) (ln l) = BitVec.ofNat 32 l.val := by
  revert l; decide

/-- The kernel's row of a column number, and its place in the row. -/
abbrev rowV (w : IVec S16 32) : IVec S16 32 := shrsi w (broadcast S16 7#32)
abbrev colV (w : IVec S16 32) : IVec S16 32 := andi w (broadcast S16 127#32)
/-- The lanes whose position lies in the part of the chunk that belongs to the row. -/
abbrev maskV (p l h : BitVec 32) : IVec S16 1 :=
  andi (cmpi .sge (addi (broadcast S16 p) (iota .scVector S16 32 [0] iota_S16_d0_w32_scVector)) (broadcast S16 l))
    (cmpi .slt (addi (broadcast S16 p) (iota .scVector S16 32 [0] iota_S16_d0_w32_scVector)) (broadcast S16 h))

theorem row_toNat (w : IVec S16 32) (x : S16.Idx) (h : (w x).toNat < 40960) : (rowV w x).toNat = (w x).toNat / 128 := by
  have hx : IsInt (w x) ((w x).toNat : Int) := by
    unfold IsInt; rw [BitVec.toInt_eq_toNat_of_lt (by omega)]
  have := shrsi hx (ofNat 7 (by decide) (e := 7)) 7 128 (by decide) (e := ((w x).toNat : Int) / 128) ⟨rfl, rfl, by decide⟩
  have h2 := toNat_of this (by omega)
  have h3 : ((rowV w x).toNat : Int) = ((w x).toNat : Int) / 128 := h2
  omega

theorem col_toNat (w : IVec S16 32) (x : S16.Idx) : (colV w x).toNat = (w x).toNat % 128 := by
  show (w x &&& 127#32).toNat = _
  rw [BitVec.toNat_and, show (127#32 : BitVec 32).toNat = 2 ^ 7 - 1 by decide, Nat.and_two_pow_sub_one_eq_mod]

theorem chk_row_col (w : IVec S16 32) (h : ∀ x, (w x).toNat < 40960) :
    ∀ a x, ((![rowV w, colV w] : Fin 2 → IVec S16 32) a x).toNat < S320x128.size a := by
  intro a x
  have := h x
  match a with
  | 0 => show (rowV w x).toNat < 320; rw [row_toNat w x this]; omega
  | 1 => show (colV w x).toNat < 128; rw [col_toNat]; omega

theorem mask_lane {p l h : BitVec 32} {P L H : ℕ} (hp : IsInt p P) (hl : IsInt l L) (hh : IsInt h H) (hP : P ≤ 400000) (i : Fin 16) :
    maskV p l h (ln i) = 1 ↔ L ≤ P + i.val ∧ P + i.val < H := by
  have hpos : IsInt (Scalar.addi p (BitVec.ofNat 32 i.val)) ((P + i.val : ℕ) : Int) :=
    Affine.addi hp (ofNat i.val ⟨rfl, by omega⟩) ⟨by omega, by omega, by omega⟩
  have e : maskV p l h (ln i)
      = Scalar.andi (Scalar.cmpi .sge (Scalar.addi p (BitVec.ofNat 32 i.val)) l) (Scalar.cmpi .slt (Scalar.addi p (BitVec.ofNat 32 i.val)) h) := by
    rw [← iota_lane i]; rfl
  rw [e]
  by_cases h1 : L ≤ P + i.val
  · by_cases h2 : P + i.val < H
    · exact ⟨fun _ => ⟨h1, h2⟩, fun _ => andi_holds (sge_holds hpos hl (by omega)) (slt_holds hpos hh (by omega))⟩
    · exact ⟨fun h' => absurd h' (andi_fails_right trivial (slt_fails hpos hh (by omega))), fun h' => absurd h'.2 h2⟩
  · exact ⟨fun h' => absurd h' (andi_fails_left (sge_fails hpos hl (by omega)) trivial), fun h' => absurd h'.1 h1⟩

/-- The kernel's reading of one byte of each word as a number. -/
def decV (w : IVec S16 32) (s : BitVec 32) : FVec F S16 .f32 :=
  let c : IVec S16 32 := andi (shrsi w (broadcast S16 s)) (broadcast S16 255#32)
  let mag : IVec S16 32 := andi c (broadcast S16 127#32)
  let r : FVec F S16 .f32 := select (cmpi .slt mag (broadcast S16 8#32))
    (mulf (sitofp .f32 mag) (broadcast S16 (Scalar.ofBits .f32 0x3B000000#32)))
    (bitcastToFloat .f32 (addi (shli mag (broadcast S16 20#32)) (broadcast S16 1006632960#32)))
  select (cmpi .sge c (broadcast S16 128#32)) (subf (broadcast S16 (Scalar.ofBits .f32 0x00000000#32)) r) r

/-- The same for one word. -/
def dec (c s : BitVec 32) : F .f32 := decV (broadcast S16 c) s (ln 0)

theorem decV_lane (w : IVec S16 32) (s : BitVec 32) (x : S16.Idx) : (decV w s : FVec F S16 .f32) x = dec (w x) s := by
  simp only [dec, decV, select, cmpi, mulf, subf, sitofp, bitcastToFloat, Idealize.ShloMosaic.addi, shli, Idealize.ShloMosaic.shrsi, andi, broadcast]

/-! ### The entries in the order the kernel visits them -/

/-- Entry `n`'s position in the arrays, the word that holds its code, and the byte of that word. -/
def slotPos (a n : ℕ) : ℕ := off a (n / 2048) + (n % 2048 / 512 * 512 + n % 64 / 16 * 128 + n % 512 / 64 * 16) + n % 16
def slotWord (a n : ℕ) : ℕ := off a (n / 2048) / 4 + (n % 2048 / 512 * 128 + n % 512 / 64 * 16) + n % 16
def slotShift (n : ℕ) : BitVec 32 := BitVec.ofNat 32 (8 * (n % 64 / 16))

section
variable (idx wrd : ℕ → BitVec 32) (a b : ℕ)

/-- Entry `n` belongs to the row and its column is place `i`. -/
def hit (n : ℕ) (i : S320x128.Idx) : Bool :=
  decide (lo a (n / 2048) ≤ slotPos a n ∧ slotPos a n < hi a b (n / 2048) ∧
    (i 0).val = (idx (slotPos a n)).toNat / 128 ∧ (i 1).val = (idx (slotPos a n)).toNat % 128)

/-- Adding an entry's number to the place it hits; clearing the place. -/
def addU (n : ℕ) (y : Elt F .f32) : Elt F .f32 := Elt.idxAdd .f32 y (dec (wrd (slotWord a n)) (slotShift n))
def clrU (_ : ℕ) (_ : Elt F .f32) : Elt F .f32 := Scalar.ofBits .f32 0x00000000#32

variable {idx wrd a b}

/-- The start of sixteen entries inside a chunk: trip `g` of the inner loop, run `q`. -/
abbrev at16 (k g q : ℕ) : ℕ := 2048 * k + 64 * g + 16 * q
/-- The offset of those entries in the chunk, and of their words. -/
abbrev in16 (g q : ℕ) : ℕ := g / 8 * 512 + q * 128 + g % 8 * 16
abbrev inW (g : ℕ) : ℕ := g / 8 * 128 + g % 8 * 16

theorem slotPos_at {k g q l : ℕ} (hg : g < 32) (hq : q < 4) (hl : l < 16) : slotPos a (at16 k g q + l) = off a k + in16 g q + l := by
  unfold slotPos at16
  have h1 : (2048 * k + 64 * g + 16 * q + l) / 2048 = k := by omega
  have h2 : (2048 * k + 64 * g + 16 * q + l) % 2048 / 512 = g / 8 := by omega
  have h3 : (2048 * k + 64 * g + 16 * q + l) % 64 / 16 = q := by omega
  have h4 : (2048 * k + 64 * g + 16 * q + l) % 512 / 64 = g % 8 := by omega
  have h5 : (2048 * k + 64 * g + 16 * q + l) % 16 = l := by omega
  rw [h1, h2, h3, h4, h5]

theorem slotWord_at {k g q l : ℕ} (hg : g < 32) (hq : q < 4) (hl : l < 16) : slotWord a (at16 k g q + l) = off a k / 4 + inW g + l := by
  unfold slotWord at16
  have h1 : (2048 * k + 64 * g + 16 * q + l) / 2048 = k := by omega
  have h2 : (2048 * k + 64 * g + 16 * q + l) % 2048 / 512 = g / 8 := by omega
  have h4 : (2048 * k + 64 * g + 16 * q + l) % 512 / 64 = g % 8 := by omega
  have h5 : (2048 * k + 64 * g + 16 * q + l) % 16 = l := by omega
  rw [h1, h2, h4, h5]

theorem chunk_at {k g q l : ℕ} (hg : g < 32) (hq : q < 4) (hl : l < 16) : (at16 k g q + l) / 2048 = k := by unfold at16; omega
theorem byte_at {k g q l : ℕ} (hg : g < 32) (hq : q < 4) (hl : l < 16) : (at16 k g q + l) % 64 / 16 = q := by unfold at16; omega

section
variable {k g q : ℕ} (hg : g < 32) (hq : q < 4) {p l h : BitVec 32} (hp : IsInt p ((off a k + in16 g q : ℕ) : Int))
  (hl : IsInt l (lo a k : Int)) (hh : IsInt h (hi a b k : Int)) {w : IVec S16 32}
  (hw : ∀ l : Fin 16, w (ln l) = idx (off a k + in16 g q + l.val)) (hr : ∀ p, (idx p).toNat < 40960)
include hg hq hp hl hh hw hr

theorem hit_lane (l' : Fin 16) (i : S320x128.Idx) : hit idx a b (at16 k g q + l'.val) i = true ↔
    maskV p l h (ln l') = 1 ∧ ∀ a, (i a).val = ((![rowV w, colV w] : Fin 2 → IVec S16 32) a (ln l')).toNat := by
  rw [mask_lane hp hl hh (by have := off_le a k; unfold in16; omega)]
  have hR := row_toNat w (ln l') (by rw [hw]; exact hr _)
  have hC := col_toNat w (ln l')
  rw [hw] at hR hC
  have e : (∀ a, (i a).val = ((![rowV w, colV w] : Fin 2 → IVec S16 32) a (ln l')).toNat)
      ↔ (i 0).val = (idx (off a k + in16 g q + l'.val)).toNat / 128 ∧ (i 1).val = (idx (off a k + in16 g q + l'.val)).toNat % 128 := by
    constructor
    · intro H; exact ⟨(H 0).trans hR, (H 1).trans hC⟩
    · rintro ⟨h0, h1⟩ a'
      match a' with
      | 0 => exact h0.trans hR.symm
      | 1 => exact h1.trans hC.symm
  rw [e]
  unfold hit
  rw [decide_eq_true_iff, chunk_at hg hq l'.isLt, slotPos_at hg hq l'.isLt]
  tauto

/-- Sixteen entries added. -/
theorem add16 {f f0 : Vec F S320x128 .f32} {s : BitVec 32} (hs : s = BitVec.ofNat 32 (8 * q)) {w8 : IVec S16 32}
    (hw8 : ∀ l : Fin 16, w8 (ln l) = wrd (off a k / 4 + inW g + l.val))
    (hf : f = st (hit idx a b) (addU (F := F) wrd a) f0 (at16 k g q)) {hc : ∀ a x, ((![rowV w, colV w] : Fin 2 → IVec S16 32) a x).toNat < S320x128.size a} :
    storeIdx (d := ![16]) f ![rowV w, colV w] (decV w8 s) (maskV p l h) true hc
      = st (hit idx a b) (addU (F := F) wrd a) f0 (at16 k g (q + 1)) := by
  rw [show at16 k g (q + 1) = at16 k g q + 16 by unfold at16; omega]
  refine storeIdx_st hf (hit_lane hg hq hp hl hh hw hr) fun l' y _ => ?_
  rw [if_pos rfl, decV_lane, hw8]
  unfold addU slotShift
  rw [slotWord_at hg hq l'.isLt, byte_at hg hq l'.isLt, hs]

/-- Sixteen entries' places cleared. -/
theorem clr16 {f f0 : Vec F S320x128 .f32} {v : Vec F S16 .f32} (hv : ∀ x, v x = Scalar.ofBits .f32 0x00000000#32)
    (hf : f = st (hit idx a b) (clrU (F := F)) f0 (at16 k g q)) {hc : ∀ a x, ((![rowV w, colV w] : Fin 2 → IVec S16 32) a x).toNat < S320x128.size a} :
    storeIdx (d := ![16]) f ![rowV w, colV w] v (maskV p l h) false hc
      = st (hit idx a b) (clrU (F := F)) f0 (at16 k g (q + 1)) := by
  rw [show at16 k g (q + 1) = at16 k g q + 16 by unfold at16; omega]
  refine storeIdx_st hf (hit_lane hg hq hp hl hh hw hr) fun l' y _ => ?_
  rw [hv]; rfl

end

/-- Clearing every place the entries hit undoes adding them. -/
theorem clear_all {z : Elt F .f32} (hz : z = Scalar.ofBits .f32 0x00000000#32) (n : ℕ) :
    st (hit idx a b) (clrU (F := F)) (st (hit idx a b) (addU (F := F) wrd a) (fun _ => z) n) n = fun _ => z := by
  suffices H : ∀ (m n : ℕ) (i : S320x128.Idx), m ≤ n → st (hit idx a b) (clrU (F := F)) (st (hit idx a b) (addU (F := F) wrd a) (fun _ => z) n) m i = z ∨
      (∀ k < m, hit idx a b k i = false) ∧
        st (hit idx a b) (clrU (F := F)) (st (hit idx a b) (addU (F := F) wrd a) (fun _ => z) n) m i = st (hit idx a b) (addU (F := F) wrd a) (fun _ => z) n i by
    have H2 : ∀ (m : ℕ) (i : S320x128.Idx), (∀ k < m, hit idx a b k i = false) → st (hit idx a b) (addU (F := F) wrd a) (fun _ => z) m i = z := by
      intro m i
      induction m with
      | zero => intro _; rfl
      | succ m ih =>
        intro hk
        show (if hit idx a b m i = true then _ else _) = z
        rw [hk m (by omega), if_neg (by decide)]
        exact ih fun k hk' => hk k (by omega)
    funext i
    rcases H n n i le_rfl with h | ⟨h1, h2⟩
    · exact h
    · rw [h2]; exact H2 n i h1
  intro m
  induction m with
  | zero => intro n i _; exact .inr ⟨fun k hk => absurd hk (by omega), rfl⟩
  | succ m ih =>
    intro n i hm
    by_cases hh : hit idx a b m i = true
    · left
      show (if hit idx a b m i = true then _ else _) = z
      rw [if_pos hh]; exact hz.symm
    · have e : st (hit idx a b) (clrU (F := F)) (st (hit idx a b) (addU (F := F) wrd a) (fun _ => z) n) (m + 1) i
          = st (hit idx a b) (clrU (F := F)) (st (hit idx a b) (addU (F := F) wrd a) (fun _ => z) n) m i := if_neg hh
      rw [e]
      rcases ih n i (by omega) with h | ⟨h1, h2⟩
      · exact .inl h
      · refine .inr ⟨fun k hk => ?_, h2⟩
        rcases Nat.lt_succ_iff_lt_or_eq.mp hk with h | rfl
        · exact h1 k h
        · simpa using hh

end

end Cert.ScatterIdeal.ScP

end

end
-- ==== Proof.ScDecode.lean ====
module

public import proofs.«01_k».proof.Proof.ScFold
public import Idealize.ShloMosaic.Lib.Pointwise
public import Mathlib.Tactic.NormNum

/-!
The kernel's decoding of a code and the reference's are the same number: the kernel builds the number's pattern, the
reference takes sign, exponent and mantissa apart.
-/

@[expose] public section

noncomputable section

namespace Cert.ScatterIdeal.ScP

open Cert.ScatterIdeal Cert.ScatterIdeal.Gen Idealize.ShloMosaic

/-- The reference's whole number for the size of a code, in units of `2 ^ -10`. -/
def sizeWord (c : BitVec 32) : BitVec 32 :=
  Scalar.select (IntOp.cmpi .eq (IntOp.andi (IntOp.shrsi .host c 3#32) 15#32) 0#32) (IntOp.muli (IntOp.andi c 7#32) 2#32)
    (IntOp.shli .host (IntOp.addi (IntOp.andi c 7#32) 8#32) (IntOp.andi (IntOp.shrsi .host c 3#32) 15#32))

/-- The size the reference gives a code. -/
def sizeR (c : BitVec 32) : EReal := (FloatOps.sitofp (F := Ideal) .f32 (sizeWord c) : EReal) * Ideal.ofBits .f32 0x3A800000#32

/-- The number the reference gives a code. -/
def numR (c : BitVec 32) : EReal := Scalar.select (IntOp.cmpi .sge c 128#32) (-sizeR c) (sizeR c)

/-- The pattern the kernel builds for a code's size. -/
def pattern (c : BitVec 32) : BitVec 32 := IntOp.addi (IntOp.shli .vector (IntOp.andi c 127#32) 20#32) 1006632960#32

/-- The size the kernel gives a code. -/
def sizeK (c : BitVec 32) : EReal :=
  Scalar.select (IntOp.cmpi .slt (IntOp.andi c 127#32) 8#32)
    ((FloatOps.sitofp (F := Ideal) .f32 (IntOp.andi c 127#32) : EReal) * Ideal.ofBits .f32 0x3B000000#32) (Ideal.ofBits .f32 (pattern c))

theorem unitK : Ideal.ofBits .f32 0x3B000000#32 = ((2 : ℝ) ^ (-9 : ℤ) : ℝ) := by
  simp [Ideal.ofBits, Ideal.ieee, -EReal.coe_mul]; norm_num

theorem unitR : Ideal.ofBits .f32 0x3A800000#32 = ((2 : ℝ) ^ (-10 : ℤ) : ℝ) := by
  simp [Ideal.ofBits, Ideal.ieee, -EReal.coe_mul]; norm_num

theorem sizeWord_int : ∀ c : Fin 256, (sizeWord (BitVec.ofNat 32 c.val)).toInt
    = if c.val % 128 < 8 then ((2 * (c.val % 128) : ℕ) : ℤ) else (((c.val % 8 + 8) * 2 ^ (c.val % 128 / 8) : ℕ) : ℤ) := by decide

theorem mag_int : ∀ c : Fin 256, (IntOp.andi (BitVec.ofNat 32 c.val) 127#32).toInt = ((c.val % 128 : ℕ) : ℤ) := by decide

theorem small_mag : ∀ c : Fin 256, IntOp.cmpi .slt (IntOp.andi (BitVec.ofNat 32 c.val) 127#32) 8#32 = BitVec.ofBool (decide (c.val % 128 < 8)) := by decide

theorem pattern_parts : ∀ c : Fin 256, 8 ≤ c.val % 128 →
    ((pattern (BitVec.ofNat 32 c.val)).extractLsb' (8 + 23) 1 == 1#1) = false
    ∧ ((pattern (BitVec.ofNat 32 c.val)).extractLsb' 23 8).toNat = c.val % 128 / 8 + 120
    ∧ ((pattern (BitVec.ofNat 32 c.val)).extractLsb' 0 23).toNat = c.val % 8 * 2 ^ 20 := by decide

/-- A normal number's value from its exponent and mantissa fields. -/
theorem real_num (e k : ℕ) : (1 : ℝ) * ((2 ^ 23 + k * 2 ^ 20 : ℕ) : ℝ) * (2 : ℝ) ^ (((e + 120 : ℕ) : ℤ) - (2 ^ (8 - 1) - 1) - ((23 : ℕ) : ℤ))
    = (((k + 8) * 2 ^ e : ℕ) : ℝ) * (2 : ℝ) ^ (-10 : ℤ) := by
  have hz : ((e + 120 : ℕ) : ℤ) - (2 ^ (8 - 1) - 1) - ((23 : ℕ) : ℤ) = (e : ℤ) + (-10) + (-20) := by push_cast; norm_num; ring
  rw [hz, zpow_add₀ (by norm_num), zpow_add₀ (by norm_num), zpow_natCast]
  push_cast
  norm_num
  ring

/-- The number whose pattern the kernel builds. -/
theorem pattern_num (c : Fin 256) (h : 8 ≤ c.val % 128) :
    Ideal.ofBits .f32 (pattern (BitVec.ofNat 32 c.val)) = ((((c.val % 8 + 8) * 2 ^ (c.val % 128 / 8) : ℕ) : ℝ) * (2 : ℝ) ^ (-10 : ℤ) : ℝ) := by
  obtain ⟨h1, h2, h3⟩ := pattern_parts c h
  show Ideal.ieee 8 23 (pattern (BitVec.ofNat 32 c.val)) = _
  unfold Ideal.ieee
  have hlt : c.val % 128 < 128 := Nat.mod_lt _ (by decide)
  simp only [h1, h2, h3]
  rw [if_neg (show ¬ c.val % 128 / 8 + 120 = 2 ^ 8 - 1 by omega), if_neg (show ¬ c.val % 128 / 8 + 120 = 0 by omega)]
  refine congrArg (fun r : ℝ => (r : EReal)) (Eq.trans ?_ (real_num (c.val % 128 / 8) (c.val % 8)))
  simp only [Bool.false_eq_true, if_false]

theorem ofBool_select {α : Type} (b : Bool) (x y : α) : Scalar.select (BitVec.ofBool b) x y = if b = true then x else y := by
  cases b <;> rfl

/-- The two sizes agree. -/
theorem size_eq (c : Fin 256) : sizeK (BitVec.ofNat 32 c.val) = sizeR (BitVec.ofNat 32 c.val) := by
  have hs : (FloatOps.sitofp (F := Ideal) .f32 (sizeWord (BitVec.ofNat 32 c.val)) : EReal) = (((sizeWord (BitVec.ofNat 32 c.val)).toInt : ℝ) : EReal) := rfl
  have hm : (FloatOps.sitofp (F := Ideal) .f32 (IntOp.andi (BitVec.ofNat 32 c.val) 127#32) : EReal) = (((IntOp.andi (BitVec.ofNat 32 c.val) 127#32).toInt : ℝ) : EReal) := rfl
  unfold sizeK sizeR
  rw [hs, hm, sizeWord_int, mag_int, small_mag, ofBool_select, unitK, unitR]
  by_cases h : c.val % 128 < 8
  · rw [if_pos (decide_eq_true h), if_pos h, ← EReal.coe_mul, ← EReal.coe_mul]
    congr 1
    push_cast
    norm_num
    ring
  · rw [if_neg (by simpa using h), if_neg h, pattern_num c (by omega), ← EReal.coe_mul]
    congr 1

/-- The kernel's number for a byte of a word is the reference's number for the code there. -/
theorem dec_eq (w : BitVec 32) (q : ℕ) (hq : q < 4) :
    dec (F := Ideal) w (BitVec.ofNat 32 (8 * q)) = numR (IntOp.andi (IntOp.shrsi .host w (IntOp.muli 8#32 (BitVec.ofNat 32 q))) 255#32) := by
  have h0 : IntOp.shrsi .host w (IntOp.muli 8#32 (BitVec.ofNat 32 q)) = IntOp.shrsi .vector w (BitVec.ofNat 32 (8 * q)) := by
    have hs : ∀ q : Fin 4, IntOp.muli 8#32 (BitVec.ofNat 32 q.val) = BitVec.ofNat 32 (8 * q.val) ∧ (BitVec.ofNat 32 (8 * q.val)).toNat < 32 := by decide
    obtain ⟨e1, e2⟩ := hs ⟨q, hq⟩
    simp only at e1 e2
    rw [e1]
    unfold IntOp.shrsi
    rw [if_pos e2, if_pos e2]
  rw [h0]
  have h1 : dec (F := Ideal) w (BitVec.ofNat 32 (8 * q)) = (Scalar.select (IntOp.cmpi .sge (IntOp.andi (IntOp.shrsi .vector w (BitVec.ofNat 32 (8 * q))) 255#32) 128#32)
      (0 - sizeK (IntOp.andi (IntOp.shrsi .vector w (BitVec.ofNat 32 (8 * q))) 255#32)) (sizeK (IntOp.andi (IntOp.shrsi .vector w (BitVec.ofNat 32 (8 * q))) 255#32)) : EReal) := by
    pointwise [dec, decV, sizeK, pattern]
  rw [h1]
  generalize IntOp.shrsi .vector w (BitVec.ofNat 32 (8 * q)) = y
  have hc : (IntOp.andi y 255#32).toNat < 256 := by
    show (y &&& 255#32).toNat < 256
    rw [BitVec.toNat_and]
    exact Nat.lt_of_le_of_lt Nat.and_le_right (by decide)
  have hy : IntOp.andi y 255#32 = BitVec.ofNat 32 (IntOp.andi y 255#32).toNat := (BitVec.ofNat_toNat ..).symm ▸ by simp
  generalize IntOp.andi y 255#32 = c at *
  have e := size_eq ⟨c.toNat, hc⟩
  simp only at e
  rw [← hy] at e
  unfold numR
  rw [e, sub_eq_add_neg, zero_add]

end Cert.ScatterIdeal.ScP

end

end
-- ==== Proof.ScBase.lean ====
module

public import proofs.«01_k».proof.Defs
public import proofs.«01_k».proof.Proof.ScFold
public import Idealize.ShloMosaic.Lib.SparseCore.Quiescent
public import Idealize.ShloMosaic.Lib.StableHlo.Run
public import Idealize.ShloMosaic.Lib.Pipeline.Kit
public import Idealize.ShloMosaic.Lib.LoopRemainder
public import Idealize.ShloMosaic.Lib.Tactic
public import proofs.«01_k».proof.Proof.Gen.ScatterIdeal
public import proofs.«01_k».proof.Proof.Gen.ScatterIdeal.Skeleton

/-!
The SparseCore program as its launch theorem sees it, its buffers by name, and the two memory rules its tasks use:
a load of sixteen words and the masked scatter into the row scratch.
-/

@[expose] public section

noncomputable section

namespace Cert.ScatterIdeal.ScP

open Cert.ScatterIdeal Cert.ScatterIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts' : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources the proof's assertions are about. -/
abbrev MM (F : FTy → Type) : Type := MT nD τ sig (HIx 1) (Elt F) ℕ UU ℕ

abbrev EH : Emb UH (MM F) := embL

/-! ## The buffers -/

/-- `indptr`, `indices`, `words` and the result, as locations of device `d`. -/
abbrev pLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev oLoc (d : Dev nD) : Loc nD τ sig := (SparseCore.T d).loc main_v0

/-- The kernel's memory references, as the body table passes them. -/
abbrev iV : Memref sig .scVector .hbm S393216 .i32 := Memref.whole main_arg1_scv
abbrev wV : Memref sig .scVector .hbm S98304 .i32 := Memref.whole main_arg2_scv
abbrev pV : Memref sig .scVector .hbm S257 .i32 := Memref.whole main_arg0_scv
abbrev oV : Memref sig .scVector .hbm S320x256x128 .f32 := Memref.whole main_v0_scv
abbrev sP : Memref sig .scVector .vmem S257 .i32 := Memref.whole cc0_scratch0
abbrev sI : Memref sig .scVector .vmem S2048 .i32 := Memref.whole cc0_scratch1
abbrev sW : Memref sig .scVector .vmem S512 .i32 := Memref.whole cc0_scratch2
abbrev sR : Memref sig .scVector .vmem S320x128 .f32 := Memref.whole cc0_scratch3

abbrev cV (L : grid0.Coords) : Fin τ.nSC := (L 0).castLE hcore0
abbrev jV (L : grid0.Coords) : Fin τ.nSub := (L 1).castLE hsub0

/-- The thread of a task, and its four scratches' locations. -/
abbrev th (d : Dev nD) (L : grid0.Coords) : Thread nD τ := V d (cV L) (jV L)
abbrev lP (d : Dev nD) (L : grid0.Coords) : Loc nD τ sig := (th d L).loc cc0_scratch0
abbrev lI (d : Dev nD) (L : grid0.Coords) : Loc nD τ sig := (th d L).loc cc0_scratch1
abbrev lW (d : Dev nD) (L : grid0.Coords) : Loc nD τ sig := (th d L).loc cc0_scratch2
abbrev lR (d : Dev nD) (L : grid0.Coords) : Loc nD τ sig := (th d L).loc cc0_scratch3

/-- The row scratch, the index scratch, the word scratch and the pointer scratch held at given contents. -/
abbrev RR (d : Dev nD) (L : grid0.Coords) (f : Vec F S320x128 .f32) : sProp (MM F) := lR d L ↦{fullShare} f
abbrev RI (d : Dev nD) (L : grid0.Coords) (f : Vec F S2048 .i32) : sProp (MM F) := lI d L ↦{fullShare} f
abbrev RW (d : Dev nD) (L : grid0.Coords) (f : Vec F S512 .i32) : sProp (MM F) := lW d L ↦{fullShare} f
abbrev RP (d : Dev nD) (L : grid0.Coords) (f : Vec F S257 .i32) : sProp (MM F) := lP d L ↦{fullShare} f

variable [FloatOps F] (d : Dev nD) (L : grid0.Coords)

/-- What a piece of the kernel does from the resources `A`. -/
abbrev Wp {α : Type} (d : Dev nD) (L : grid0.Coords) (p : Prog (TpuEff nD τ sig (Elt F) Λ₀ (.scVector ((L 0).castLE hcore0) ((L 1).castLE hsub0))) α) (Q : α → sProp (MM F)) : sProp (MM F) :=
  wp frame (wpE (defs₀ (F := F)) 𝒱₀ (th d L) none) Set.univ p Q

omit [FloatOps F] in
theorem pts_sR_whole (f : Buf (Elt F) (lR d L)) :
    ((sR.access (.whole S320x128)).loc (th d L) ↦[(sR.access (.whole S320x128)).set]{fullShare} f : sProp (MM F)) = lR d L ↦{fullShare} f := by
  rw [show (sR.access (.whole S320x128)).set = Finset.univ from Memref.set_access_whole (cc0_scratch3 : Ref sig .scVector)]

theorem scatter_eq {idxs : Fin 2 → IVec S16 32} {v : Vec F S16 .f32} {mask : IVec S16 1} {add : Bool}
    {h : ∀ a x, (idxs a x).toNat < S320x128.size a} {f g : Vec F S320x128 .f32} (hg : storeIdx (d := ![16]) f idxs v mask add h = g) :
    (sR.access (.whole S320x128)).write (Elt F) f (storeIdx ((sR.access (.whole S320x128)).read (Elt F) f) idxs v mask add h) Finset.univ = g := by
  rw [show (sR.access (.whole S320x128)).read (Elt F) f = f from Memref.read_access_whole (Elt F) (cc0_scratch3 : Ref sig .scVector) _]
  exact (Memref.write_access_whole_univ (Elt F) (cc0_scratch3 : Ref sig .scVector) _ _).trans hg

/-- The masked scatter into the row scratch. -/
theorem wp_scatter {α : Type} {idxs : Fin 2 → IVec S16 32} {v : Vec F S16 .f32} {mask : IVec S16 1} {add : Bool}
    {h : ∀ a x, (idxs a x).toNat < S320x128.size a} {hs : (sR.access (.whole S320x128)).Stores Finset.univ}
    {k : PUnit → Prog (TpuEff nD τ sig (Elt F) Λ₀ (.scVector ((L 0).castLE hcore0) ((L 1).castLE hsub0))) α} {Q : α → sProp (MM F)}
    {f g : Vec F S320x128 .f32} (hg : storeIdx (d := ![16]) f idxs v mask add h = g) :
    RR d L f ⊢ iprop((RR d L g -∗ Wp d L (k ⟨⟩) Q)
      -∗ Wp d L (SparseCore.vectorStoreIdx sR idxs v mask add h hs >>= k) Q) := by
  iintro H Hk
  ihave H' := (Entails.of_eq (pts_sR_whole (F := F) d L _).symm) $$ H
  iapply (SparseCore.wp_vectorStoreIdx 𝒱₀ (th d L) none Set.univ (base := sR)) $$ H'
  iintro H
  iapply Hk
  ihave H' := (Entails.of_eq (pts_sR_whole (F := F) d L _)) $$ H
  iapply (Entails.of_eq (congrArg (fun f' : Buf (Elt F) (lR d L) => (lR d L ↦{fullShare} f' : sProp (MM F))) (scatter_eq hg))) $$ H'

/-! ### Loads of sixteen words -/

/-- What the index scratch and the word scratch hold while chunk `k` is worked on. -/
def HoldsI (idx : ℕ → BitVec 32) (a k : ℕ) (f : Vec F S2048 .i32) : Prop := ∀ j : S2048.Idx, f j = idx (off a k + (j 0).val)
def HoldsW (wrd : ℕ → BitVec 32) (a k : ℕ) (f : Vec F S512 .i32) : Prop := ∀ j : S512.Idx, f j = wrd (off a k / 4 + (j 0).val)

omit [FloatOps F] in
theorem read_sI {idx : ℕ → BitVec 32} {a k n : ℕ} {f : Vec F S2048 .i32} (hf : HoldsI idx a k f) {o : Fin 1 → ℕ} (ho : o = ![n])
    {inb : ∀ a, o a + S16.size a ≤ S2048.size a} (l : Fin 16) :
    sI.view.readAt (Elt F) (Rect.unit (s := S2048) o S16.size inb).toLoadRect f (ln l) = idx (off a k + n + l.val) := by
  subst ho
  simp only [View.readAt_apply, Memref.view_whole, View.read_whole]
  refine (hf _).trans (congrArg idx ?_)
  rw [LoadRect.idx_apply]
  show off a k + (n + 1 * l.val) = _
  omega

omit [FloatOps F] in
theorem read_sW {wrd : ℕ → BitVec 32} {a k n : ℕ} {f : Vec F S512 .i32} (hf : HoldsW wrd a k f) {o : Fin 1 → ℕ} (ho : o = ![n])
    {inb : ∀ a, o a + S16.size a ≤ S512.size a} (l : Fin 16) :
    sW.view.readAt (Elt F) (Rect.unit (s := S512) o S16.size inb).toLoadRect f (ln l) = wrd (off a k / 4 + n + l.val) := by
  subst ho
  simp only [View.readAt_apply, Memref.view_whole, View.read_whole]
  refine (hf _).trans (congrArg wrd ?_)
  rw [LoadRect.idx_apply]
  show off a k / 4 + (n + 1 * l.val) = _
  omega

omit [FloatOps F] in
theorem lane_all {P : S16.Idx → Prop} (h : ∀ l : Fin 16, P (ln l)) (x : S16.Idx) : P x := by
  have : x = ln (x 0) := by
    funext a
    obtain rfl : a = 0 := Subsingleton.elim a 0
    rfl
  rw [this]; exact h _

end Cert.ScatterIdeal.ScP

end

end
-- ==== Proof.ScTrip.lean ====
module

public import proofs.«01_k».proof.Proof.ScBase

/-!
One trip of each inner loop: the sixty-four entries of a group added to the row scratch, and their places cleared.
-/

@[expose] public section

noncomputable section

namespace Cert.ScatterIdeal.ScP

open Cert.ScatterIdeal Cert.ScatterIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (S V T)
open Idealize.ShloMosaic.Affine (IsInt)

variable {F : FTy → Type} [FloatOps F]

/-! ### The offsets and the position words of a trip -/

theorem off11_eq (g : Fin k0_t4_loop.trips) : k0_off11 g = ![inW g.val] := by revert g; decide +kernel
theorem off12_eq (g : Fin k0_t4_loop.trips) : k0_off12 g = ![in16 g.val 0] := by revert g; decide +kernel
theorem off13_eq (g : Fin k0_t4_loop.trips) : k0_off13 g = ![in16 g.val 1] := by revert g; decide +kernel
theorem off14_eq (g : Fin k0_t4_loop.trips) : k0_off14 g = ![in16 g.val 2] := by revert g; decide +kernel
theorem off15_eq (g : Fin k0_t4_loop.trips) : k0_off15 g = ![in16 g.val 3] := by revert g; decide +kernel
theorem off25_eq (g : Fin k0_t8_loop.trips) : k0_off25 g = ![in16 g.val 0] := by revert g; decide +kernel
theorem off26_eq (g : Fin k0_t8_loop.trips) : k0_off26 g = ![in16 g.val 1] := by revert g; decide +kernel
theorem off27_eq (g : Fin k0_t8_loop.trips) : k0_off27 g = ![in16 g.val 2] := by revert g; decide +kernel
theorem off28_eq (g : Fin k0_t8_loop.trips) : k0_off28 g = ![in16 g.val 3] := by revert g; decide +kernel

/-- The kernel's group number and its position word for run `q`'s byte offset `r`. -/
abbrev gW (g : ℕ) : BitVec 32 := Scalar.addi 0#32 (Scalar.muli (Scf.iv 0#32 1#32 g) 1#32)
abbrev tileW (g : ℕ) : BitVec 32 := Scalar.muli (Scalar.shrsi (gW g) 3#32) 512#32
abbrev laneW (g : ℕ) : BitVec 32 := Scalar.muli (Scalar.andi (gW g) 7#32) 16#32
abbrev posW (o r : BitVec 32) (g : ℕ) : BitVec 32 := Scalar.addi o (Scalar.addi (Scalar.addi (tileW g) r) (laneW g))

theorem posW_int {o : BitVec 32} {a k g q : ℕ} (ho : IsInt o (off a k : Int)) (hg : g < 32) (hq : q < 4) :
    IsInt (posW o (BitVec.ofNat 32 (128 * q)) g) ((off a k + in16 g q : ℕ) : Int) := by
  have h : ∀ (g : Fin 32) (q : Fin 4), (Scalar.addi (Scalar.addi (tileW g.val) (BitVec.ofNat 32 (128 * q.val))) (laneW g.val)).toInt = (in16 g.val q.val : Int) := by
    decide +kernel
  have := off_le a k
  have h2 : in16 g q ≤ 2048 := by unfold in16; omega
  exact Affine.addi ho (show IsInt _ ((in16 g q : ℕ) : Int) by unfold IsInt; exact h ⟨g, hg⟩ ⟨q, hq⟩) ⟨by push_cast; rfl, by push_cast; omega, by push_cast; omega⟩

variable (d : Dev nD) (L : grid0.Coords)

section
variable {idx wrd : ℕ → BitVec 32} {a b : ℕ} {x y : BitVec 32} (hx : IsInt x a) (hy : IsInt y b) (ha : a ≤ 393216) (hb : b ≤ 393216)
  (hr : ∀ p, (idx p).toNat < 40960)
include hx hy ha hb hr

/-- A group of sixty-four entries added to the row scratch. -/
theorem t4_trip (k : Fin (k0_t3_loop x y).trips) (hk : k.val ≤ 200) (g : Fin k0_t4_loop.trips) (u : Unit) {f7 : Vec F S2048 .i32} {f8 : Vec F S512 .i32} {f0 : Vec F S320x128 .f32}
    (h7 : HoldsI idx a k.val f7) (h8 : HoldsW wrd a k.val f8) :
    iprop(RI d L f7 ∗ RW d L f8
        ∗ RR d L (st (hit idx a b) (addU (F := F) wrd a) f0 (at16 k.val g.val 0)))
      ⊢ Wp d L (k0_t4_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (iota .scVector S16 32 [0] iota_S16_d0_w32_scVector) x y (baseW x) k (offW x k.val) (loW x k.val) (hiW x y k.val) g u)
        fun _ => iprop(RI d L f7 ∗ RW d L f8
        ∗ RR d L (st (hit idx a b) (addU (F := F) wrd a) f0 (at16 k.val (g.val + 1) 0))) := by
  have hg : g.val < 32 := g.isLt
  unfold k0_t4_body
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro ⟨H7, H8, H9⟩
  iapply (wp_load 𝒱₀ (th d L) none Set.univ (m := sW) (S := Finset.univ) (Finset.subset_univ _)) $$ H8; iintro H8
  iapply (wp_load 𝒱₀ (th d L) none Set.univ (m := sI) (S := Finset.univ) (Finset.subset_univ _)) $$ H7; iintro H7
  iapply (wp_assume (P := k0_chk3 _ _) 𝒱₀ (th d L) none Set.univ (chk_row_col _ (lane_all fun l => (congrArg BitVec.toNat (read_sI h7 (off12_eq g) l)).trans_lt (hr _))))
  iapply (wp_scatter d L (add16 hg (q := 0) (by decide) (posW_int (offW_int hx ha hk) hg (q := 0) (by decide)) (loW_int hx ha hk) (hiW_int hx hy ha hk)
    (read_sI h7 (off12_eq g)) hr rfl (read_sW h8 (off11_eq g)) rfl)) $$ H9; iintro H9
  iapply (wp_load 𝒱₀ (th d L) none Set.univ (m := sI) (S := Finset.univ) (Finset.subset_univ _)) $$ H7; iintro H7
  iapply (wp_assume (P := k0_chk4 _ _) 𝒱₀ (th d L) none Set.univ (chk_row_col _ (lane_all fun l => (congrArg BitVec.toNat (read_sI h7 (off13_eq g) l)).trans_lt (hr _))))
  iapply (wp_scatter d L (add16 hg (q := 1) (by decide) (posW_int (offW_int hx ha hk) hg (q := 1) (by decide)) (loW_int hx ha hk) (hiW_int hx hy ha hk)
    (read_sI h7 (off13_eq g)) hr rfl (read_sW h8 (off11_eq g)) rfl)) $$ H9; iintro H9
  iapply (wp_load 𝒱₀ (th d L) none Set.univ (m := sI) (S := Finset.univ) (Finset.subset_univ _)) $$ H7; iintro H7
  iapply (wp_assume (P := k0_chk5 _ _) 𝒱₀ (th d L) none Set.univ (chk_row_col _ (lane_all fun l => (congrArg BitVec.toNat (read_sI h7 (off14_eq g) l)).trans_lt (hr _))))
  iapply (wp_scatter d L (add16 hg (q := 2) (by decide) (posW_int (offW_int hx ha hk) hg (q := 2) (by decide)) (loW_int hx ha hk) (hiW_int hx hy ha hk)
    (read_sI h7 (off14_eq g)) hr rfl (read_sW h8 (off11_eq g)) rfl)) $$ H9; iintro H9
  iapply (wp_load 𝒱₀ (th d L) none Set.univ (m := sI) (S := Finset.univ) (Finset.subset_univ _)) $$ H7; iintro H7
  iapply (wp_assume (P := k0_chk6 _ _) 𝒱₀ (th d L) none Set.univ (chk_row_col _ (lane_all fun l => (congrArg BitVec.toNat (read_sI h7 (off15_eq g) l)).trans_lt (hr _))))
  iapply (wp_scatter d L (add16 hg (q := 3) (by decide) (posW_int (offW_int hx ha hk) hg (q := 3) (by decide)) (loW_int hx ha hk) (hiW_int hx hy ha hk)
    (read_sI h7 (off15_eq g)) hr rfl (read_sW h8 (off11_eq g)) rfl)) $$ H9; iintro H9
  unfold Wp
  sl_step
  isplitl [H7]; · iexact H7
  isplitl [H8]; · iexact H8
  iexact H9

/-- The places of a group of sixty-four entries cleared. -/
theorem t8_trip (k : Fin (k0_t7_loop x y).trips) (hk : k.val ≤ 200) (g : Fin k0_t8_loop.trips) (u : Unit) {f7 : Vec F S2048 .i32} {f0 : Vec F S320x128 .f32}
    (h7 : HoldsI idx a k.val f7) :
    iprop(RI d L f7
        ∗ RR d L (st (hit idx a b) (clrU (F := F)) f0 (at16 k.val g.val 0)))
      ⊢ Wp d L (k0_t8_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (iota .scVector S16 32 [0] iota_S16_d0_w32_scVector) x y (baseW x) k (offW x k.val) (loW x k.val) (hiW x y k.val) g u)
        fun _ => iprop(RI d L f7
        ∗ RR d L (st (hit idx a b) (clrU (F := F)) f0 (at16 k.val (g.val + 1) 0))) := by
  have hg : g.val < 32 := g.isLt
  unfold k0_t8_body
  simp only [k0_part7_eq_skeleton]
  unfold k0_part7_skel
  simp only [Prog.lift, Prog.bind_op, Prog.bind_ret, Prog.pure_eq_ret, Prog.bind_assoc]
  iintro ⟨H7, H9⟩
  iapply (wp_load 𝒱₀ (th d L) none Set.univ (m := sI) (S := Finset.univ) (Finset.subset_univ _)) $$ H7; iintro H7
  iapply (wp_assume (P := k0_chk11 _ _) 𝒱₀ (th d L) none Set.univ (chk_row_col _ (lane_all fun l => (congrArg BitVec.toNat (read_sI h7 (off25_eq g) l)).trans_lt (hr _))))
  iapply (wp_scatter d L (clr16 hg (q := 0) (by decide) (posW_int (offW_int hx ha hk) hg (q := 0) (by decide)) (loW_int hx ha hk) (hiW_int hx hy ha hk)
    (read_sI h7 (off25_eq g)) hr (fun _ => rfl) rfl)) $$ H9; iintro H9
  iapply (wp_load 𝒱₀ (th d L) none Set.univ (m := sI) (S := Finset.univ) (Finset.subset_univ _)) $$ H7; iintro H7
  iapply (wp_assume (P := k0_chk12 _ _) 𝒱₀ (th d L) none Set.univ (chk_row_col _ (lane_all fun l => (congrArg BitVec.toNat (read_sI h7 (off26_eq g) l)).trans_lt (hr _))))
  iapply (wp_scatter d L (clr16 hg (q := 1) (by decide) (posW_int (offW_int hx ha hk) hg (q := 1) (by decide)) (loW_int hx ha hk) (hiW_int hx hy ha hk)
    (read_sI h7 (off26_eq g)) hr (fun _ => rfl) rfl)) $$ H9; iintro H9
  iapply (wp_load 𝒱₀ (th d L) none Set.univ (m := sI) (S := Finset.univ) (Finset.subset_univ _)) $$ H7; iintro H7
  iapply (wp_assume (P := k0_chk13 _ _) 𝒱₀ (th d L) none Set.univ (chk_row_col _ (lane_all fun l => (congrArg BitVec.toNat (read_sI h7 (off27_eq g) l)).trans_lt (hr _))))
  iapply (wp_scatter d L (clr16 hg (q := 2) (by decide) (posW_int (offW_int hx ha hk) hg (q := 2) (by decide)) (loW_int hx ha hk) (hiW_int hx hy ha hk)
    (read_sI h7 (off27_eq g)) hr (fun _ => rfl) rfl)) $$ H9; iintro H9
  iapply (wp_load 𝒱₀ (th d L) none Set.univ (m := sI) (S := Finset.univ) (Finset.subset_univ _)) $$ H7; iintro H7
  iapply (wp_assume (P := k0_chk14 _ _) 𝒱₀ (th d L) none Set.univ (chk_row_col _ (lane_all fun l => (congrArg BitVec.toNat (read_sI h7 (off28_eq g) l)).trans_lt (hr _))))
  iapply (wp_scatter d L (clr16 hg (q := 3) (by decide) (posW_int (offW_int hx ha hk) hg (q := 3) (by decide)) (loW_int hx ha hk) (hiW_int hx hy ha hk)
    (read_sI h7 (off28_eq g)) hr (fun _ => rfl) rfl)) $$ H9; iintro H9
  unfold Wp
  sl_step
  isplitl [H7]; · iexact H7
  iexact H9

end

end Cert.ScatterIdeal.ScP

end

end
-- ==== Proof.ScChunk.lean ====
module

public import proofs.«01_k».proof.Proof.ScTrip

/-!
One chunk of a row: its indices and words fetched, its entries added to the row scratch; and its places cleared.
-/

@[expose] public section

noncomputable section

namespace Cert.ScatterIdeal.ScP

open Cert.ScatterIdeal Cert.ScatterIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (S V T)
open Idealize.ShloMosaic.Affine (IsInt)

variable {F : FTy → Type} [FloatOps F] (d : Dev nD) (L : grid0.Coords)

/-- What a task keeps while it works on chunks: a share of the indices and of the words, the two chunk scratches, the
    semaphores of their transfers. -/
def Kit (q : PosShare TreeShare) (iM : Buf (Elt F) (iLoc d)) (wM : Buf (Elt F) (wLoc d)) (O : CellTallies nD τ sig (HIx 1)) : sProp (MM F) :=
  iprop(Transfers.MayWaits (th d L) (none : HIx 1) O
    ∗ (iLoc d ↦{q} iM) ∗ (wLoc d ↦{q} wM)
    ∗ (∃ f, lI d L ↦{fullShare} f) ∗ (∃ f, lW d L ↦{fullShare} f)
    ∗ semVal (th d L, SemLoc.dma cc0_scoped1.sem) 0 ∗ semVal (th d L, SemLoc.dma cc0_scoped2.sem) 0
    ∗ semVal (th d L, SemLoc.dma cc0_scoped5.sem) 0
    ∗ ∃ W', owes (th d L) O W')

omit [FloatOps F] in
theorem read_iV {idx : ℕ → BitVec 32} {f : Vec F S393216 .i32} (hf : ∀ j, f j = idx (j 0).val) {o : Fin 1 → ℕ} {n : ℕ} (ho : o = ![n])
    {inb : ∀ a, o a + S2048.size a ≤ S393216.size a} (j : S2048.Idx) :
    View.read (Elt F) (iV.slice (Rect.unit (s := S393216) o S2048.size inb) (fun _ => rfl)).view f j = idx (n + (j 0).val) := by
  subst ho
  refine (hf _).trans (congrArg idx ?_)
  show n + 1 * (j 0).val = _
  omega

omit [FloatOps F] in
theorem read_wV {wrd : ℕ → BitVec 32} {f : Vec F S98304 .i32} (hf : ∀ j, f j = wrd (j 0).val) {o : Fin 1 → ℕ} {n : ℕ} (ho : o = ![n])
    {inb : ∀ a, o a + S512.size a ≤ S98304.size a} (j : S512.Idx) :
    View.read (Elt F) (wV.slice (Rect.unit (s := S98304) o S512.size inb) (fun _ => rfl)).view f j = wrd (n + (j 0).val) := by
  subst ho
  refine (hf _).trans (congrArg wrd ?_)
  show n + 1 * (j 0).val = _
  omega

section
variable {idx wrd : ℕ → BitVec 32} {a b : ℕ} {x y : BitVec 32} (hx : IsInt x a) (hy : IsInt y b) (ha : a ≤ 393216) (hb : b ≤ 393216)
  (hr : ∀ p, (idx p).toNat < 40960)
include hx hy ha hb hr

/-- A chunk added. -/
theorem t3_trip (q : PosShare TreeShare) (iM : Buf (Elt F) (iLoc d)) (wM : Buf (Elt F) (wLoc d)) (O : CellTallies nD τ sig (HIx 1))
    (hI : ∀ j : S393216.Idx, iM j = idx (j 0).val) (hW : ∀ j : S98304.Idx, wM j = wrd (j 0).val)
    (hc : k0_chk2 x y) (k : Fin (k0_t3_loop x y).trips) (hk : k.val ≤ 200) (u : Unit) {f0 : Vec F S320x128 .f32} :
    iprop(Kit d L q iM wM O ∗ RR d L (st (hit idx a b) (addU (F := F) wrd a) f0 (2048 * k.val)))
      ⊢ Wp d L (k0_t3_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (iota .scVector S16 32 [0] iota_S16_d0_w32_scVector) x y hc (baseW x) k u)
        fun _ => iprop(Kit d L q iM wM O ∗ RR d L (st (hit idx a b) (addU (F := F) wrd a) f0 (2048 * (k.val + 1)))) := by
  unfold Kit k0_t3_body Wp
  iintro ⟨⟨Hmw, Hi, Hw, ⟨%f7, H7⟩, ⟨%f8, H8⟩, Hs1, Hs2, Hs5, %W', HO⟩, H9⟩
  ihave Hi' := (show _ ⊢ (iV.view.loc (th d L) ↦{q} iM : sProp (MM F)) from .rfl) $$ Hi
  ihave Hw' := (show _ ⊢ (wV.view.loc (th d L) ↦{q} wM : sProp (MM F)) from .rfl) $$ Hw
  ihave H7' := (show _ ⊢ (sI.view.loc (th d L) ↦{fullShare} f7 : sProp (MM F)) from .rfl) $$ H7
  ihave H8' := (show _ ⊢ (sW.view.loc (th d L) ↦{fullShare} f8 : sProp (MM F)) from .rfl) $$ H8
  sl_exec (disch := exact View.amount_pos _ _ (by decide))
  have h7 : HoldsI idx a k.val (View.write (Elt F) sI.view f7 (t3_trip.sl.dma0 d iM hc k) Finset.univ) := by
    intro j
    rw [show View.write (Elt F) sI.view f7 (t3_trip.sl.dma0 d iM hc k) Finset.univ = t3_trip.sl.dma0 d iM hc k from View.write_whole_univ _ _ _]
    exact read_iV hI (off9_eq hx hy ha hb k) j
  have h8 : HoldsW wrd a k.val (View.write (Elt F) sW.view f8 (t3_trip.sl.dma0_1 d wM hc k) Finset.univ) := by
    intro j
    rw [show View.write (Elt F) sW.view f8 (t3_trip.sl.dma0_1 d wM hc k) Finset.univ = t3_trip.sl.dma0_1 d wM hc k from View.write_whole_univ _ _ _]
    exact read_wV hW (off10_eq hx hy ha hb k) j
  generalize View.write (Elt F) sI.view f7 (t3_trip.sl.dma0 d iM hc k) Finset.univ = g7 at h7 ⊢
  generalize View.write (Elt F) sW.view f8 (t3_trip.sl.dma0_1 d wM hc k) Finset.univ = g8 at h8 ⊢
  sl_for (fun (g : ℕ) (_ : Unit) => (iprop(RI d L g7 ∗ RW d L g8 ∗ RR d L (st (hit idx a b) (addU (F := F) wrd a) f0 (at16 k.val g 0))) : sProp (MM F))) $$ [H7' H8' H9]
  case region =>
    intro g u'
    exact t4_trip d L hx hy ha hb hr k hk g u' h7 h8
  · isplitl [H7']; · iexact H7'
    isplitl [H8']; · iexact H8'
    iexact H9
  iintro %_ HI
  icases HI with ⟨H7, H8, H9⟩
  sl_step
  isplitr [H9]
  · isplitl [Hmw]; · iexact Hmw
    isplitl [Hi']; · iexact Hi'
    isplitl [Hw']; · iexact Hw'
    isplitl [H7]; · iexists g7; iexact H7
    isplitl [H8]; · iexists g8; iexact H8
    isplitl [Hs1]; · iexact Hs1
    isplitl [Hs2]; · iexact Hs2
    isplitl [Hs5]; · iexact Hs5
    iexists _; iexact HO
  iexact H9

/-- A chunk's places cleared. -/
theorem t7_trip (q : PosShare TreeShare) (iM : Buf (Elt F) (iLoc d)) (wM : Buf (Elt F) (wLoc d)) (O : CellTallies nD τ sig (HIx 1))
    (hI : ∀ j : S393216.Idx, iM j = idx (j 0).val)
    (hc : k0_chk2 x y) (k : Fin (k0_t7_loop x y).trips) (hk : k.val ≤ 200) (u : Unit) {f0 : Vec F S320x128 .f32} :
    iprop(Kit d L q iM wM O ∗ RR d L (st (hit idx a b) (clrU (F := F)) f0 (2048 * k.val)))
      ⊢ Wp d L (k0_t7_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (iota .scVector S16 32 [0] iota_S16_d0_w32_scVector) x y hc (baseW x) k u)
        fun _ => iprop(Kit d L q iM wM O ∗ RR d L (st (hit idx a b) (clrU (F := F)) f0 (2048 * (k.val + 1)))) := by
  unfold Kit k0_t7_body Wp
  iintro ⟨⟨Hmw, Hi, Hw, ⟨%f7, H7⟩, ⟨%f8, H8⟩, Hs1, Hs2, Hs5, %W', HO⟩, H9⟩
  ihave Hi' := (show _ ⊢ (iV.view.loc (th d L) ↦{q} iM : sProp (MM F)) from .rfl) $$ Hi
  ihave H7' := (show _ ⊢ (sI.view.loc (th d L) ↦{fullShare} f7 : sProp (MM F)) from .rfl) $$ H7
  sl_exec (disch := exact View.amount_pos _ _ (by decide))
  have h7 : HoldsI idx a k.val (View.write (Elt F) sI.view f7 (t7_trip.sl.dma0 d iM hc k) Finset.univ) := by
    intro j
    rw [show View.write (Elt F) sI.view f7 (t7_trip.sl.dma0 d iM hc k) Finset.univ = t7_trip.sl.dma0 d iM hc k from View.write_whole_univ _ _ _]
    exact read_iV hI (off24_eq hx hy ha hb k) j
  generalize View.write (Elt F) sI.view f7 (t7_trip.sl.dma0 d iM hc k) Finset.univ = g7 at h7 ⊢
  sl_for (fun (g : ℕ) (_ : Unit) => (iprop(RI d L g7 ∗ RR d L (st (hit idx a b) (clrU (F := F)) f0 (at16 k.val g 0))) : sProp (MM F))) $$ [H7' H9]
  case region =>
    intro g u'
    exact t8_trip d L hx hy ha hb hr k hk g u' h7
  · isplitl [H7']; · iexact H7'
    iexact H9
  iintro %_ HI
  icases HI with ⟨H7, H9⟩
  sl_step
  isplitr [H9]
  · isplitl [Hmw]; · iexact Hmw
    isplitl [Hi']; · iexact Hi'
    isplitl [Hw]; · iexact Hw
    isplitl [H7]; · iexists g7; iexact H7
    isplitl [H8]; · iexists f8; iexact H8
    isplitl [Hs1]; · iexact Hs1
    isplitl [Hs2]; · iexact Hs2
    isplitl [Hs5]; · iexact Hs5
    iexists _; iexact HO
  iexact H9

end
end Cert.ScatterIdeal.ScP

end

end
-- ==== Proof.ScZero.lean ====
module

public import proofs.«01_k».proof.Proof.ScChunk
public import Idealize.ShloMosaic.Lib.ViewIndex
public import Idealize.ShloMosaic.Lib.Pipeline.ValueKit.Geometry

/-!
The row scratch cleared: the kernel's loop that stores sixteen zeros at a time.
-/

@[expose] public section

noncomputable section

namespace Cert.ScatterIdeal.ScP

open Cert.ScatterIdeal Cert.ScatterIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (S V T)

variable {F : FTy → Type} [FloatOps F] (d : Dev nD) (L : grid0.Coords)

/-- The zero the kernel stores. -/
abbrev z0 : Elt F .f32 := (Scalar.ofBits .f32 0x00000000#32 : F .f32)

/-- The rows before `k`, and the first `16 * n` places of row `k`, hold zero. -/
def Clean (k n : ℕ) (f : Vec F S320x128 .f32) : Prop := ∀ i, (i 0).val < k ∨ (i 0).val = k ∧ (i 1).val < 16 * n → f i = z0

theorem Clean.store {k n : ℕ} {f : Vec F S320x128 .f32} (hf : Clean k n f) {o : Fin 2 → ℕ} (ho : o = ![k, 16 * n])
    {inb : ∀ a, o a + S1x16.size a ≤ S320x128.size a} {p : FVec F S1x16 .f32} (hp : ∀ j, p j = z0) :
    Clean k (n + 1) ((sR.view.slice (Rect.unit (s := S320x128) o S1x16.size inb)).write (Elt F) f p Finset.univ) := by
  subst ho
  intro i hi
  by_cases hm : i ∈ (sR.view.slice (Rect.unit (s := S320x128) ![k, 16 * n] S1x16.size inb)).set
  · obtain ⟨j, rfl⟩ := View.exists_of_mem_set_slice hm
    exact (View.write_emb_of_mem (v := sR.view.slice (Rect.unit (s := S320x128) ![k, 16 * n] S1x16.size inb)) f p (Finset.mem_univ j)).trans (hp j)
  · refine (View.write_of_not_mem _ _ _ (by rwa [View.setOn_univ])).trans (hf i ?_)
    rcases hi with hi | ⟨h0, h1⟩
    · exact .inl hi
    · refine .inr ⟨h0, ?_⟩
      by_contra hc
      refine hm ?_
      refine (ValueKit.mem_set_slice_whole_iff (cc0_scratch3 : Ref sig .scVector) _ i Rect.mem_set_unit).2 ?_
      intro a
      match a with
      | 0 => exact ⟨h0.ge, show (i 0).val < k + 1 by omega⟩
      | 1 => exact ⟨show 16 * n ≤ (i 1).val by omega, show (i 1).val < 16 * n + 16 by omega⟩

theorem Clean.next {k : ℕ} {f : Vec F S320x128 .f32} (hf : Clean k 8 f) : Clean (k + 1) 0 f := by
  intro i hi
  have h1 : (i 1).val < 128 := (i 1).isLt
  exact hf i (by omega)

theorem pay1_apply (j : S1x16.Idx) : shapeCast S1x16 (k0_pay1 (F := F)) shapeCasts_S16_S1x16 j = z0 := rfl

theorem t1_trip (k : Fin k0_t1_loop.trips) (u : Unit) :
    (iprop(∃ f, ⌜Clean (F := F) k.val 0 f⌝ ∗ RR d L f) : sProp (MM F))
      ⊢ Wp d L (k0_t1_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6 k u)
        fun _ => iprop(∃ f, ⌜Clean (F := F) (k.val + 1) 0 f⌝ ∗ RR d L f) := by
  unfold k0_t1_body Wp
  iintro ⟨%f, %hf, H⟩
  ihave H' := (show _ ⊢ (sR.view.loc (th d L) ↦{fullShare} f : sProp (MM F)) from .rfl) $$ H
  sl_exec
  sl_step
  iexists _
  isplitr; swap; iexact H'
  ipureintro
  refine Clean.next ?_
  refine Clean.store ?_ (k0_off8_eq k) (inb := k0_off8_inb k) pay1_apply
  refine Clean.store ?_ (k0_off7_eq k) (inb := k0_off7_inb k) pay1_apply
  refine Clean.store ?_ (k0_off6_eq k) (inb := k0_off6_inb k) pay1_apply
  refine Clean.store ?_ (k0_off5_eq k) (inb := k0_off5_inb k) pay1_apply
  refine Clean.store ?_ (k0_off4_eq k) (inb := k0_off4_inb k) pay1_apply
  refine Clean.store ?_ (k0_off3_eq k) (inb := k0_off3_inb k) pay1_apply
  refine Clean.store ?_ (k0_off2_eq k) (inb := k0_off2_inb k) pay1_apply
  exact Clean.store hf (k0_off1_eq k) (inb := k0_off1_inb k) pay1_apply

end Cert.ScatterIdeal.ScP

end

end
-- ==== Proof.ScRow.lean ====
module

public import proofs.«01_k».proof.Proof.ScZero
public import Idealize.ShloMosaic.Lib.Pointwise.Index

/-!
One row of a task: its two row pointers read, its chunks added to the row scratch, the scratch sent to the row of the
result, and the scratch cleared again.
-/

@[expose] public section

noncomputable section

namespace Cert.ScatterIdeal.ScP

open Cert.ScatterIdeal Cert.ScatterIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (S V T)
open Idealize.ShloMosaic.Affine (IsInt)

variable {F : FTy → Type} [FloatOps F] (d : Dev nD) (L : grid0.Coords)

/-- The row of trip `j` of task `L`. -/
abbrev rowOf (L : grid0.Coords) (j : ℕ) : ℕ := 2 * (L 1).val + (L 0).val + 32 * j

theorem rowOf_lt (j : Fin k0_t2_loop.trips) : rowOf L j.val < 256 := by
  have h0 : (L 0).val < 2 := (L 0).isLt
  have h1 : (L 1).val < 16 := (L 1).isLt
  have h2 : j.val < 8 := j.isLt
  unfold rowOf
  omega

/-- The places of row `r` of the result. -/
def rowSet (r : ℕ) : Finset S320x256x128.Idx := Finset.univ.filter fun i => (i 1).val = r

/-- The row of the result that trip `j` writes, as the kernel addresses it. -/
abbrev oRow (L : grid0.Coords) (j : Fin k0_t2_loop.trips) : Memref sig .scVector .hbm S320x128 .f32 :=
  (oV.slice (Rect.unit (s := S320x256x128) (k0_off23 L j) S320x1x128.size (k0_off23_inb L j)) (fun _ => rfl)).squeeze S320x128
    squeezes_S320x1x128_S320x128

/-- A place of the row as a place of the result. -/
theorem oRow_emb (j : Fin k0_t2_loop.trips) (p : S320x128.Idx) :
    ((oRow L j).view.emb p 0).val = (p 0).val ∧ ((oRow L j).view.emb p 1).val = rowOf L j.val ∧ ((oRow L j).view.emb p 2).val = (p 1).val := by
  have e : (Shape.reshapeEquiv squeezes_S320x1x128_S320x128.numel_eq p : S320x1x128.Idx) = ix3 (p 0) (0 : Fin 1) (p 1) :=
    Shape.reshapeEquiv_eq_of_rowMajor _ ((Shape.rowMajor_val_three (d := ![320, 1, 128]) (ix3 (p 0) (0 : Fin 1) (p 1))).trans
      ((show ((p 0).val * 1 + 0) * 128 + (p 1).val = (p 0).val * 128 + (p 1).val by omega).trans (Shape.rowMajor_val_two (d := ![320, 128]) p).symm))
  have h : ∀ a, ((oRow L j).view.emb p a).val = k0_off23 L j a + (ix3 (p 0) (0 : Fin 1) (p 1) a).val := by
    intro a
    rw [← e]
    exact ValueKit.rect_emb_unit_val _ _ _ _ a
  rw [k0_off23_eq] at h
  exact ⟨(h 0).trans (Nat.zero_add _), h 1, (h 2).trans (Nat.zero_add _)⟩

theorem oRow_set (j : Fin k0_t2_loop.trips) : (oRow L j).view.set = rowSet (rowOf L j.val) := by
  ext i
  rw [show (oRow L j).view.set = _ from View.set_reshape _ _]
  refine (ValueKit.mem_set_slice_whole_iff (main_v0_scv : Ref sig .scVector) _ i Rect.mem_set_unit).trans ?_
  rw [k0_off23_eq]
  unfold rowSet
  rw [Finset.mem_filter]
  have h0 : (i 0).val < 320 := (i 0).isLt
  have h2 : (i 2).val < 128 := (i 2).isLt
  constructor
  · intro h
    have h1 := h 1
    have h1' : rowOf L j.val ≤ (i 1).val ∧ (i 1).val < rowOf L j.val + 1 := h1
    exact ⟨Finset.mem_univ _, by omega⟩
  · rintro ⟨-, h1⟩ a
    match a with
    | 0 => exact ⟨Nat.zero_le _, show (i 0).val < 0 + 320 by omega⟩
    | 1 => exact ⟨show rowOf L j.val ≤ (i 1).val by omega, show (i 1).val < rowOf L j.val + 1 by omega⟩
    | 2 => exact ⟨Nat.zero_le _, show (i 2).val < 0 + 128 by omega⟩

/-! ### The row's two pointers -/

/-- What the row scratch holds once row `r`'s entries are added, by the pointers `ip`, the columns and the words. -/
def rowVal (idx wrd ip : ℕ → BitVec 32) (r : ℕ) : Vec F S320x128 .f32 :=
  st (hit idx (ip r).toNat (ip (r + 1)).toNat) (addU (F := F) wrd (ip r).toNat) (fun _ => z0) (2048 * cnt (ip r).toNat (ip (r + 1)).toNat)

/-- The result: every row's scratch. -/
def outVal (idx wrd ip : ℕ → BitVec 32) : Vec F S320x256x128 .f32 :=
  fun i => rowVal (F := F) idx wrd ip (i 1).val (ix2 (i 0) (i 2))

section
variable {ip : ℕ → BitVec 32} {pM : Vec F S257 .i32} (hp : ∀ j : S257.Idx, pM j = ip (j 0).val)

abbrev taskW (L : grid0.Coords) : BitVec 32 := Scalar.addi (Scalar.muli (BitVec.ofNat 32 (L 1).val) 2#32) (BitVec.ofNat 32 (L 0).val)
abbrev lanes : IVec S16 32 := iota .scVector S16 32 [0] iota_S16_d0_w32_scVector

/-- Lane `l` of the pointer load names pointer `r + min l 1`. -/
theorem pay76_int (j : Fin k0_t2_loop.trips) (x : S16.Idx) :
    IsInt (k0_pay76 (taskW L) lanes 0#32 1#32 j x) (min (rowOf L j.val + (x 0).val) (rowOf L j.val + 1) : ℕ) := by
  have h0 : (L 0).val < 2 := (L 0).isLt
  have h1 : (L 1).val < 16 := (L 1).isLt
  have h2 : j.val < 8 := j.isLt
  have h3 : (x 0).val < 16 := (x 0).isLt
  have z : IsInt 0#32 0 := Affine.ofNat 0 (by decide)
  have o : IsInt 1#32 1 := Affine.ofNat 1 (by decide)
  have hi : IsInt (Scf.iv 0#32 1#32 j.val) (j.val : Int) := Affine.iv z o j.val ⟨by omega, by omega, by omega⟩
  have hr : IsInt (Scalar.addi (taskW L) (Scalar.muli 32#32 (Scalar.addi 0#32 (Scalar.muli (Scf.iv 0#32 1#32 j.val) 1#32)))) (rowOf L j.val : ℕ) :=
    Affine.addi (Affine.addi (Affine.muli (Affine.ofNat (L 1).val (by omega) (e := (L 1).val)) (Affine.ofNat 2 (by decide) (e := 2)) (e := 2 * (L 1).val) ⟨by omega, by omega, by omega⟩)
        (Affine.ofNat (L 0).val (by omega) (e := (L 0).val)) (e := 2 * (L 1).val + (L 0).val) ⟨by omega, by omega, by omega⟩)
      (Affine.muli (Affine.ofNat 32 (by decide) (e := 32)) (Affine.addi z (Affine.muli hi o ⟨rfl, by omega, by omega⟩) ⟨rfl, by omega, by omega⟩) ⟨rfl, by omega, by omega⟩)
      ⟨by unfold rowOf; omega, by unfold rowOf; omega, by unfold rowOf; omega⟩
  have hl : IsInt (lanes x) ((x 0).val : Int) := by
    have e : lanes x = BitVec.ofNat 32 (x 0).val := by
      show BitVec.ofNat 32 (0 * 16 + (x 0).val) = _
      rw [Nat.zero_mul, Nat.zero_add]
    rw [e]
    exact Affine.ofNat _ (by omega)
  have hlt := rowOf_lt L j
  generalize rowOf L j.val = r at hr hlt ⊢
  exact Affine.minsi (Affine.addi hr hl (e := (r : Int) + ((x 0).val : Int)) ⟨by omega, by omega, by omega⟩)
    (Affine.addi hr o (e := (r + 1 : ℕ)) ⟨by omega, by omega, by omega⟩)
    (e := (min (r + (x 0).val) (r + 1) : ℕ)) (by omega)

theorem pay76_toNat (j : Fin k0_t2_loop.trips) (x : S16.Idx) :
    (k0_pay76 (taskW L) lanes 0#32 1#32 j x).toNat = min (rowOf L j.val + (x 0).val) (rowOf L j.val + 1) :=
 by
  have h := Affine.toNat_of (pay76_int L j x) (by omega)
  omega

theorem chk1 (j : Fin k0_t2_loop.trips) : k0_chk1 (k0_pay76 (taskW L) lanes 0#32 1#32 j) := by
  intro a x
  match a with
  | 0 =>
    have h := pay76_toNat L j x
    have hlt := rowOf_lt L j
    show (k0_pay76 (taskW L) lanes 0#32 1#32 j x).toNat < 257
    omega

include hp in
theorem ptr0 (j : Fin k0_t2_loop.trips) {h : ∀ a x, ((![k0_pay76 (taskW L) lanes 0#32 1#32 j] : Fin 1 → IVec S16 32) a x).toNat < S257.size a} :
    extractAt ![0] (k0_pay77 (F := F) (loadIdx pM ![k0_pay76 (taskW L) lanes 0#32 1#32 j] h)) inpos_S1_p0 = ip (rowOf L j.val) := by
  refine (hp _).trans (congrArg ip ?_)
  refine (pay76_toNat L j _).trans ?_
  show min (rowOf L j.val + 0) _ = _
  omega

include hp in
theorem ptr1 (j : Fin k0_t2_loop.trips) {h : ∀ a x, ((![k0_pay76 (taskW L) lanes 0#32 1#32 j] : Fin 1 → IVec S16 32) a x).toNat < S257.size a} :
    extractAt ![0] (k0_pay78 (F := F) (loadIdx pM ![k0_pay76 (taskW L) lanes 0#32 1#32 j] h)) inpos_S1_p0 = ip (rowOf L j.val + 1) := by
  refine (hp _).trans (congrArg ip ?_)
  refine (pay76_toNat L j _).trans ?_
  show min (rowOf L j.val + 1) _ = _
  omega
end

theorem isInt_of_le {x : BitVec 32} (h : x.toNat ≤ 393216) : IsInt x (x.toNat : Int) := by
  unfold IsInt; rw [BitVec.toInt_eq_toNat_of_lt (by omega)]

/-- The result read along row `r` is the row's scratch. -/
theorem outVal_emb (idx wrd ip : ℕ → BitVec 32) (j : Fin k0_t2_loop.trips) (p : S320x128.Idx) :
    outVal (F := F) idx wrd ip ((oRow L j).view.emb p) = rowVal (F := F) idx wrd ip (rowOf L j.val) p := by
  obtain ⟨h0, h1, h2⟩ := oRow_emb L j p
  unfold outVal
  rw [show (((oRow L j).view.emb p : S320x256x128.Idx) 1).val = rowOf L j.val from h1]
  congr 1
  funext a
  match a with
  | 0 => exact Fin.ext h0
  | 1 => exact Fin.ext h2

/-- A row sent out holds the row's scratch. -/
theorem write_row (j : Fin k0_t2_loop.trips) {f0 : Vec F S320x256x128 .f32} {w g : Vec F S320x128 .f32} {f : Vec F S320x256x128 .f32}
    (hw : w = g) (hf : ∀ p, f ((oRow L j).view.emb p) = g p) (i : S320x256x128.Idx) (hi : i ∈ (oRow L j).view.set) :
    (oRow L j).view.writes (Elt F) f0 [⟨Rect.whole S320x128, w⟩] i = f i := by
  subst hw
  obtain ⟨p, -, rfl⟩ := Finset.mem_map.1 hi
  refine Eq.trans ?_ (hf p).symm
  rw [← View.write_univ_eq_writes_whole]
  exact View.write_emb_of_mem (v := (oRow L j).view) (Val := Elt F) f0 w (Finset.mem_univ p)

/-- The gather of the pointer scratch. -/
theorem wp_ptr {α : Type} {idxs : Fin 1 → IVec S16 32} {h : ∀ a x, (idxs a x).toNat < S257.size a} {hl : sP.view.Loads}
    {k : Vec F S16 .i32 → Prog (TpuEff nD τ sig (Elt F) Λ₀ (.scVector ((L 0).castLE hcore0) ((L 1).castLE hsub0))) α} {Q : α → sProp (MM F)}
    {f : Vec F S257 .i32} :
    RP d L f ⊢ iprop((RP d L f -∗ Wp d L (k (loadIdx f idxs h)) Q)
      -∗ Wp d L (SparseCore.vectorLoadIdx sP idxs h hl >>= k) Q) := by
  iintro H Hk
  ihave H' := (show _ ⊢ ((sP.access (.whole S257)).loc (th d L) ↦{fullShare} f : sProp (MM F)) from .rfl) $$ H
  iapply (SparseCore.wp_vectorLoadIdx 𝒱₀ (th d L) none Set.univ (base := sP) (S := Finset.univ) (q := fullShare) (Finset.subset_univ _)) $$ H'
  iintro H
  rw [show (sP.access (.whole S257)).read (Elt F) f = f from Memref.read_access_whole (Elt F) (cc0_scratch0 : Ref sig .scVector) _]
  iapply Hk
  iexact H

/-- The resources of a task between rows. -/
def Task (q : PosShare TreeShare) (iM : Buf (Elt F) (iLoc d)) (wM : Buf (Elt F) (wLoc d)) (pM : Vec F S257 .i32) (O : CellTallies nD τ sig (HIx 1)) : sProp (MM F) :=
  iprop(Kit d L q iM wM O ∗ RP d L pM ∗ RR d L (fun _ => z0) ∗ semVal (th d L, SemLoc.dma cc0_scratch4.sem) 0)

/-- The first part of a row: its two pointers. -/
theorem part9 {ip : ℕ → BitVec 32} {pM : Vec F S257 .i32} (hp : ∀ j : S257.Idx, pM j = ip (j 0).val) (hip : ∀ r, (ip r).toNat ≤ 393216)
    (j : Fin k0_t2_loop.trips) :
    RP d L pM ⊢ Wp d L (k0_part9 (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (taskW L) lanes 0#32 1#32 j)
        fun v => iprop(⌜v.1 = ip (rowOf L j.val) ∧ v.2.1 = ip (rowOf L j.val + 1) ∧ v.2.2.2.1 = baseW v.1⌝ ∗ RP d L pM) := by
  rw [k0_part9_eq_skeleton]
  unfold k0_part9_skel Wp
  simp only [Prog.lift, Prog.bind_op, Prog.bind_ret, Prog.pure_eq_ret, Prog.bind_assoc]
  iintro HP
  iapply (wp_assume (P := k0_chk1 _) 𝒱₀ (th d L) none Set.univ (chk1 L j))
  iapply (wp_ptr d L) $$ HP; iintro HP
  have e0 := ptr0 L hp j (h := k0_idx1_inb _ (chk1 L j))
  have e1 := ptr1 L hp j (h := k0_idx1_inb _ (chk1 L j))
  iapply (wp_assume (P := k0_chk2 _ _) 𝒱₀ (th d L) none Set.univ
    (by rw [e0, e1]; exact chk2 (a := (ip (rowOf L j.val)).toNat) (b := (ip (rowOf L j.val + 1)).toNat) (isInt_of_le (hip _)) (isInt_of_le (hip _)) (hip _) (hip _)))
  sl_step
  isplitr [HP]
  · ipureintro; exact ⟨e0, e1, rfl⟩
  iexact HP

section
variable {idx wrd ip : ℕ → BitVec 32} (hr : ∀ p, (idx p).toNat < 40960) (hip : ∀ r, (ip r).toNat ≤ 393216)
include hr hip

/-- A row. -/
theorem t2_trip (q : PosShare TreeShare) (iM : Buf (Elt F) (iLoc d)) (wM : Buf (Elt F) (wLoc d)) {pM : Vec F S257 .i32} (O : CellTallies nD τ sig (HIx 1))
    (hI : ∀ j : S393216.Idx, iM j = idx (j 0).val) (hW : ∀ j : S98304.Idx, wM j = wrd (j 0).val) (hp : ∀ j : S257.Idx, pM j = ip (j 0).val)
    (j : Fin k0_t2_loop.trips) (u : Unit) (fo : Vec F S320x256x128 .f32) :
    iprop(Task d L q iM wM pM O ∗ (oLoc d ↦[rowSet (rowOf L j.val)]{fullShare} (fo : Buf (Elt F) (oLoc d))))
      ⊢ Wp d L (k0_t2_body (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6
          (taskW L) lanes j u)
        fun _ => iprop(Task d L q iM wM pM O ∗ (oLoc d ↦[rowSet (rowOf L j.val)]{fullShare} (outVal (F := F) idx wrd ip : Buf (Elt F) (oLoc d)))) := by
  unfold Task k0_t2_body Wp
  iintro ⟨⟨Hk, HP, HR, Hs⟩, Ho⟩
  rw [wp_bind]
  iapply (wp_wand_r frame (wpE (defs₀ (F := F)) 𝒱₀ (th d L) none) Set.univ)
  isplitl [HP]
  · iapply (part9 d L hp hip j) $$ HP
  iintro %v ⟨%hv, HP⟩
  obtain ⟨x, y, hc, bw, n, m⟩ := v
  obtain ⟨e0, e1, e2⟩ := hv
  dsimp only at e0 e1 e2 ⊢
  subst e2
  have hx : IsInt x ((ip (rowOf L j.val)).toNat : Int) := by rw [e0]; exact isInt_of_le (hip _)
  have hy : IsInt y ((ip (rowOf L j.val + 1)).toNat : Int) := by rw [e1]; exact isInt_of_le (hip _)
  have hN : Scf.trips (k0_t3_loop x y).lb (k0_t3_loop x y).ub (k0_t3_loop x y).st = cnt (ip (rowOf L j.val)).toNat (ip (rowOf L j.val + 1)).toNat := loop_trips hx hy (hip _) (hip _)
  have hN7 : Scf.trips (k0_t7_loop x y).lb (k0_t7_loop x y).ub (k0_t7_loop x y).st = cnt (ip (rowOf L j.val)).toNat (ip (rowOf L j.val + 1)).toNat := hN
  sl_for (fun (k : ℕ) (_ : Unit) => (iprop(Kit d L q iM wM O ∗ RR d L (st (hit idx (ip (rowOf L j.val)).toNat (ip (rowOf L j.val + 1)).toNat)
    (addU (F := F) wrd (ip (rowOf L j.val)).toNat) (fun _ => z0) (2048 * k))) : sProp (MM F))) $$ [Hk HR]
  case region =>
    intro k u'
    exact t3_trip d L hx hy (hip _) (hip _) hr q iM wM O hI hW hc k (k_lt hx hy (hip _) (hip _) k.isLt) u'
  · isplitl [Hk]; · iexact Hk
    iexact HR
  iintro %_ HI
  icases HI with ⟨Hk, HR⟩
  rw [hN]
  ihave HR' := (show RR d L (st (hit idx (ip (rowOf L j.val)).toNat (ip (rowOf L j.val + 1)).toNat) (addU (F := F) wrd (ip (rowOf L j.val)).toNat) (fun _ => z0)
      (2048 * cnt (ip (rowOf L j.val)).toNat (ip (rowOf L j.val + 1)).toNat)) ⊢ (sR.view.loc (th d L) ↦{fullShare} (rowVal (F := F) idx wrd ip (rowOf L j.val)) : sProp (MM F)) from .rfl) $$ HR
  rw [← oRow_set L j]
  ihave Ho' := (show _ ⊢ ((oRow L j).view.loc (th d L) ↦[(oRow L j).view.set]{fullShare} (fo : Buf (Elt F) (oLoc d)) : sProp (MM F)) from .rfl) $$ Ho
  unfold Kit
  icases Hk with ⟨Hmw, Hi, Hw, ⟨%f7, H7⟩, ⟨%f8, H8⟩, Hs1, Hs2, Hs5, %W', HO⟩
  sl_exec (disch := exact View.amount_pos _ _ (by decide))
  ihave Ho := (show ((oRow L j).view.loc (th d L) ↦[(oRow L j).view.set]{fullShare} (((oRow L j).view.writes (Elt F) (oRow L j).view.junk [⟨Rect.whole S320x128, t2_trip.sl.dma0 L j⟩] : Vec F S320x256x128 .f32) : Buf (Elt F) (oLoc d)) : sProp (MM F))
      ⊢ (oLoc d ↦[(oRow L j).view.set]{fullShare} (outVal (F := F) idx wrd ip : Buf (Elt F) (oLoc d)))
      from Entails.of_eq (pointsTo_congr fun i hi => write_row L j rfl (outVal_emb L idx wrd ip j) i hi)) $$ Ho'
  sl_for (fun (k : ℕ) (_ : Unit) => (iprop(Kit d L q iM wM O ∗ RR d L (st (hit idx (ip (rowOf L j.val)).toNat (ip (rowOf L j.val + 1)).toNat)
    (clrU (F := F)) (rowVal (F := F) idx wrd ip (rowOf L j.val)) (2048 * k))) : sProp (MM F))) $$ [Hmw Hi Hw H7 H8 Hs1 Hs2 Hs5 HO HR']
  case region =>
    intro k u'
    exact t7_trip d L hx hy (hip _) (hip _) hr q iM wM O hI hc k (k_lt hx hy (hip _) (hip _) k.isLt) u'
  · isplitr [HR']
    · unfold Kit
      isplitl [Hmw]; · iexact Hmw
      isplitl [Hi]; · iexact Hi
      isplitl [Hw]; · iexact Hw
      isplitl [H7]; · iexists f7; iexact H7
      isplitl [H8]; · iexists f8; iexact H8
      isplitl [Hs1]; · iexact Hs1
      isplitl [Hs2]; · iexact Hs2
      isplitl [Hs5]; · iexact Hs5
      iexists _; iexact HO
    iexact HR'
  iintro %_ HI
  icases HI with ⟨Hk, HR⟩
  rw [hN7]
  rw [show st (hit idx (ip (rowOf L j.val)).toNat (ip (rowOf L j.val + 1)).toNat) (clrU (F := F)) (rowVal (F := F) idx wrd ip (rowOf L j.val))
      (2048 * cnt (ip (rowOf L j.val)).toNat (ip (rowOf L j.val + 1)).toNat) = fun _ => z0 from clear_all rfl _]
  sl_exec
  sl_step
  isplitr [Ho]
  · unfold Kit
    isplitl [Hk]; · iexact Hk
    isplitl [HP]; · iexact HP
    isplitl [HR]; · iexact HR
    iexact Hs
  iexact Ho
end

end Cert.ScatterIdeal.ScP

end

end
-- ==== Proof.ScTask.lean ====
module

public import proofs.«01_k».proof.Proof.ScRow
public import Idealize.ShloMosaic.Lib.ShareLeaves

/-!
A whole task of the SparseCore kernel: the pointers fetched, the row scratch cleared, the task's eight rows.
-/

@[expose] public section

noncomputable section

namespace Cert.ScatterIdeal.ScP

open Cert.ScatterIdeal Cert.ScatterIdeal.Gen
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (S V T)

variable {F : FTy → Type} [FloatOps F] (d : Dev nD) (L : grid0.Coords)

/-- The rows of task `(c, i)` of the result, at contents `f`. -/
def Rows (d : Dev nD) (c i : ℕ) (f : Fin 8 → Vec F S320x256x128 .f32) : sProp (MM F) :=
  bigSep Finset.univ fun j : Fin 8 => oLoc d ↦[rowSet (2 * i + c + 32 * j.val)]{fullShare} (f j : Buf (Elt F) (oLoc d))

/-- The rows once the first `k` are done. -/
abbrev done (k : ℕ) (f g : Vec F S320x256x128 .f32) (j : Fin 8) : Vec F S320x256x128 .f32 := if j.val < k then g else f

theorem rows_take (c i : ℕ) {k : ℕ} (hk : k < 8) (f g : Vec F S320x256x128 .f32) :
    Rows d c i (done k f g) = iprop((oLoc d ↦[rowSet (2 * i + c + 32 * k)]{fullShare} (f : Buf (Elt F) (oLoc d)))
      ∗ bigSep (Finset.univ.erase ⟨k, hk⟩) fun j : Fin 8 => oLoc d ↦[rowSet (2 * i + c + 32 * j.val)]{fullShare} (done k f g j : Buf (Elt F) (oLoc d))) := by
  unfold Rows
  rw [SparseCore.bigSep_erase' (Finset.mem_univ (⟨k, hk⟩ : Fin 8)), show done k f g ⟨k, hk⟩ = f from if_neg (Nat.lt_irrefl _)]

theorem rows_put (c i : ℕ) {k : ℕ} (hk : k < 8) (f g : Vec F S320x256x128 .f32) :
    Rows d c i (done (k + 1) f g) = iprop((oLoc d ↦[rowSet (2 * i + c + 32 * k)]{fullShare} (g : Buf (Elt F) (oLoc d)))
      ∗ bigSep (Finset.univ.erase ⟨k, hk⟩) fun j : Fin 8 => oLoc d ↦[rowSet (2 * i + c + 32 * j.val)]{fullShare} (done k f g j : Buf (Elt F) (oLoc d))) := by
  unfold Rows
  rw [SparseCore.bigSep_erase' (Finset.mem_univ (⟨k, hk⟩ : Fin 8)), show done (k + 1) f g ⟨k, hk⟩ = g from if_pos (Nat.lt_succ_self _)]
  congr 1
  refine bigSep_congr fun j hj => ?_
  have hne : j.val ≠ k := fun e => (Finset.mem_erase.1 hj).1 (Fin.ext e)
  have e : done (k + 1) f g j = done k f g j := by
    unfold done
    by_cases h : j.val < k
    · rw [if_pos h, if_pos (by omega)]
    · rw [if_neg h, if_neg (by omega)]
  rw [e]

/-! ### The scratches and the semaphores among the subcore's own -/

abbrev cel (d : Dev nD) (L : grid0.Coords) (s : SemLoc sig) : GSem nD τ sig := (th d L, s)

/-- The semaphores the task uses, and the rest. -/
theorem ownSems0_V :
    (ownSems0 (th d L) : sProp (MM F))
      = iprop(semVal (cel d L (.dma cc0_scratch4.sem)) 0 ∗ semVal (cel d L (.dma cc0_scoped0.sem)) 0 ∗ semVal (cel d L (.dma cc0_scoped1.sem)) 0
          ∗ semVal (cel d L (.dma cc0_scoped2.sem)) 0 ∗ semVal (cel d L (.dma cc0_scoped5.sem)) 0
          ∗ bigSep ((((((ownCells (th d L)).erase (cel d L (.dma cc0_scratch4.sem))).erase (cel d L (.dma cc0_scoped0.sem))).erase (cel d L (.dma cc0_scoped1.sem))).erase
              (cel d L (.dma cc0_scoped2.sem))).erase (cel d L (.dma cc0_scoped5.sem))) fun g => semVal g 0) := by
  have own : ∀ s : SemLoc sig, s.isScoped .scVector = true → cel d L s ∈ ownCells (th d L) := fun s h => mem_ownCells.mpr ⟨rfl, h⟩
  have ne : ∀ {s s' : SemLoc sig}, s ≠ s' → cel d L s ≠ cel d L s' := fun h e => h (congrArg Prod.snd e)
  unfold SparseCore.Cfg.ownSems0
  rw [SparseCore.bigSep_erase' (own (.dma cc0_scratch4.sem) (by decide)),
    SparseCore.bigSep_erase' (i := cel d L (.dma cc0_scoped0.sem)) (Finset.mem_erase.mpr ⟨ne (by decide), own _ (by decide)⟩),
    SparseCore.bigSep_erase' (i := cel d L (.dma cc0_scoped1.sem)) (Finset.mem_erase.mpr ⟨ne (by decide), Finset.mem_erase.mpr ⟨ne (by decide), own _ (by decide)⟩⟩),
    SparseCore.bigSep_erase' (i := cel d L (.dma cc0_scoped2.sem)) (Finset.mem_erase.mpr ⟨ne (by decide), Finset.mem_erase.mpr ⟨ne (by decide),
      Finset.mem_erase.mpr ⟨ne (by decide), own _ (by decide)⟩⟩⟩),
    SparseCore.bigSep_erase' (i := cel d L (.dma cc0_scoped5.sem)) (Finset.mem_erase.mpr ⟨ne (by decide), Finset.mem_erase.mpr ⟨ne (by decide),
      Finset.mem_erase.mpr ⟨ne (by decide), Finset.mem_erase.mpr ⟨ne (by decide), own _ (by decide)⟩⟩⟩⟩)]

abbrev bufOf (L : grid0.Coords) (b : Ref sig .scVector) := (Proc.scVector (τ := τ) (cV L) (jV L)).devRef b

/-- The subcore's own buffers: the four scratches, each at some contents, and the rest. -/
theorem ownBufs_V :
    (ownBufs (th d L) : sProp (MM F))
      = iprop((∃ f, lP d L ↦{fullShare} f) ∗ (∃ f, lI d L ↦{fullShare} f) ∗ (∃ f, lW d L ↦{fullShare} f) ∗ (∃ f, lR d L ↦{fullShare} f)
          ∗ bigSep (((((ownRefs (τ := τ) (.scVector (cV L) (jV L))).erase (bufOf L cc0_scratch0)).erase (bufOf L cc0_scratch1)).erase (bufOf L cc0_scratch2)).erase
              (bufOf L cc0_scratch3)) fun b => iprop(∃ f, ((d, b) : Loc nD τ sig) ↦{fullShare} f)) := by
  have ne : ∀ {b b' : Ref sig .scVector}, b ≠ b' → bufOf L b ≠ bufOf L b' := fun h e => h (Proc.devRef_injective _ e)
  unfold SparseCore.Cfg.ownBufs
  refine (SparseCore.bigSep_erase' (SparseCore.Cfg.mem_ownRefs_of_owner (p := Proc.scVector (cV L) (jV L)) (b := bufOf L cc0_scratch0) rfl)).trans ?_
  rw [SparseCore.bigSep_erase' (i := bufOf L cc0_scratch1) (Finset.mem_erase.mpr ⟨ne (by decide), SparseCore.Cfg.mem_ownRefs_of_owner (p := Proc.scVector (cV L) (jV L)) (b := bufOf L cc0_scratch1) rfl⟩),
    SparseCore.bigSep_erase' (i := bufOf L cc0_scratch2) (Finset.mem_erase.mpr ⟨ne (by decide), Finset.mem_erase.mpr ⟨ne (by decide), SparseCore.Cfg.mem_ownRefs_of_owner (p := Proc.scVector (cV L) (jV L)) (b := bufOf L cc0_scratch2) rfl⟩⟩),
    SparseCore.bigSep_erase' (i := bufOf L cc0_scratch3) (Finset.mem_erase.mpr ⟨ne (by decide), Finset.mem_erase.mpr ⟨ne (by decide),
      Finset.mem_erase.mpr ⟨ne (by decide), SparseCore.Cfg.mem_ownRefs_of_owner (p := Proc.scVector (cV L) (jV L)) (b := bufOf L cc0_scratch3) rfl⟩⟩⟩)]

/-- What a task is handed and hands back: a share of the three arguments, its rows of the result. -/
def TaskRes (d : Dev nD) (c i : ℕ) (q : PosShare TreeShare) (pM : Buf (Elt F) (pLoc d)) (iM : Buf (Elt F) (iLoc d)) (wM : Buf (Elt F) (wLoc d))
    (f : Vec F S320x256x128 .f32) : sProp (MM F) :=
  iprop((pLoc d ↦{q} pM) ∗ (iLoc d ↦{q} iM) ∗ (wLoc d ↦{q} wM) ∗ Rows d c i fun _ => f)

section
variable {idx wrd ip : ℕ → BitVec 32} (hr : ∀ p, (idx p).toNat < 40960) (hip : ∀ r, (ip r).toNat ≤ 393216)
include hr hip

theorem tile_body (hF : (K (F := F)).Facts) (O : CellTallies nD τ sig (HIx 1)) (W : Waits sig (HIx 1)) (hO : ∀ g, O g none = 0)
    (q : PosShare TreeShare) (pM : Buf (Elt F) (pLoc d)) (iM : Buf (Elt F) (iLoc d)) (wM : Buf (Elt F) (wLoc d)) (fo : Vec F S320x256x128 .f32)
    (hI : ∀ j : S393216.Idx, iM j = idx (j 0).val) (hW : ∀ j : S98304.Idx, wM j = wrd (j 0).val) (hp : ∀ j : S257.Idx, pM j = ip (j 0).val) :
    iprop(levAts (K (F := F)).L (K (F := F)).lev ∗ emp ∗ TaskRes d (L 0).val (L 1).val q pM iM wM fo
        ∗ scopedBufs (th d L) ∗ scopedSems0 (th d L) ∗ owes (th d L) O W)
      ⊢ wp frame (wpE (defs₀ (F := F)) 𝒱₀ (th d L) none) Set.univ
          (cc0_sc_densify (F := F) L iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6)
          fun _ => iprop(TaskRes d (L 0).val (L 1).val q pM iM wM (outVal (F := F) idx wrd ip)
            ∗ scopedBufs (th d L) ∗ scopedSems0 (th d L)
            ∗ ∃ W', ⌜∀ p ∈ W', p ∈ W ∨ p.2 = none ∨ p.2 = some (0 : Fin 1)⌝ ∗ owes (th d L) O W') := by
  rw [(K (F := F)).scopedBufs_V hF d (cV L) (jV L), SparseCore.Cfg.scopedSems0_V (Val := Elt F) d (cV L) (jV L), ownSems0_V, ownBufs_V]
  rw [cc0_sc_densify_eq_skeleton]
  unfold cc0_sc_densify_skel TaskRes
  iintro ⟨#Hlv, -, ⟨Hp, Hi, Hw, Ho⟩, ⟨⟨%f6, H6⟩, ⟨%f7, H7⟩, ⟨%f8, H8⟩, ⟨%f9, H9⟩, Hbufs⟩, ⟨Hs, Hs0, Hs1, Hs2, Hs5, Hsems⟩, HO⟩
  ihave Hmw := (show levAts (K (F := F)).L (K (F := F)).lev ⊢ Transfers.MayWaits (th d L) (none : HIx 1) O from
    (K (F := F)).mayWaits_none (thr := th d L) hO) $$ Hlv
  ihave Hp' := (show _ ⊢ (pV.view.loc (th d L) ↦{q} pM : sProp (MM F)) from .rfl) $$ Hp
  ihave H6' := (show _ ⊢ (sP.view.loc (th d L) ↦{fullShare} f6 : sProp (MM F)) from .rfl) $$ H6
  sl_exec (disch := exact View.amount_pos _ _ (by decide))
  have h6 : View.write (Elt F) sP.view f6 (tile_body.sl.dma0 d pM) Finset.univ = pM := View.write_whole_univ _ _ _
  rw [h6]
  sl_for (fun (k : ℕ) (_ : Unit) => (iprop(∃ f, ⌜Clean (F := F) k 0 f⌝ ∗ RR d L f) : sProp (MM F))) $$ [H9]
  case region =>
    intro k u'
    exact t1_trip d L k u'
  · iexists f9
    isplitr; swap; iexact H9
    ipureintro
    intro i hi
    omega
  iintro %_ HI
  icases HI with ⟨%f, %hf, HR⟩
  have hz : f = fun _ => z0 := funext fun i => hf i (.inl (i 0).isLt)
  subst hz
  sl_for (fun (k : ℕ) (_ : Unit) => (iprop(Task d L q iM wM pM O ∗ Rows d (L 0).val (L 1).val (done k fo (outVal (F := F) idx wrd ip))) : sProp (MM F)))
    $$ [Hmw Hi Hw H7 H8 Hs1 Hs2 Hs5 HO H6' HR Hs Ho]
  case region =>
    intro k u'
    rw [rows_take d (L 0).val (L 1).val (show k.val < 8 from k.isLt), rows_put d (L 0).val (L 1).val (show k.val < 8 from k.isLt)]
    iintro ⟨HT, Ho, Hrest⟩
    iapply (wp_wand_r frame (wpE (defs₀ (F := F)) 𝒱₀ (th d L) none) Set.univ)
    isplitl [HT Ho]
    · iapply (t2_trip d L hr hip q iM wM O hI hW hp k u' fo) $$ [HT Ho]
      isplitl [HT]; · iexact HT
      iexact Ho
    iintro %_ ⟨HT, Ho⟩
    isplitl [HT]; · iexact HT
    isplitl [Ho]; · iexact Ho
    iexact Hrest
  · isplitr [Ho]
    · unfold Task Kit
      isplitr [H6' HR Hs]
      · isplitl [Hmw]; · iexact Hmw
        isplitl [Hi]; · iexact Hi
        isplitl [Hw]; · iexact Hw
        isplitl [H7]; · iexists f7; iexact H7
        isplitl [H8]; · iexists f8; iexact H8
        isplitl [Hs1]; · iexact Hs1
        isplitl [Hs2]; · iexact Hs2
        isplitl [Hs5]; · iexact Hs5
        iexists _; iexact HO
      isplitl [H6']; · iexact H6'
      isplitl [HR]; · iexact HR
      iexact Hs
    iexact Ho
  iintro %_ HI
  unfold Task Kit
  icases HI with ⟨⟨⟨Hmw, Hi, Hw, ⟨%f7, H7⟩, ⟨%f8, H8⟩, Hs1, Hs2, Hs5, %W', HO⟩, H6, HR, Hs⟩, Ho⟩
  sl_step
  isplitl [Hp' Hi Hw Ho]
  · isplitl [Hp']; · iexact Hp'
    isplitl [Hi]; · iexact Hi
    isplitl [Hw]; · iexact Hw
    iapply (show Rows d (L 0).val (L 1).val (done (Scf.trips k0_t2_loop.lb k0_t2_loop.ub k0_t2_loop.st) fo (outVal (F := F) idx wrd ip)) ⊢ Rows d (L 0).val (L 1).val (fun _ => outVal (F := F) idx wrd ip) from
      Entails.of_eq (congrArg (Rows d (L 0).val (L 1).val) (funext fun j => if_pos j.isLt))) $$ Ho
  isplitl [H6 H7 H8 HR Hbufs]
  · isplitl [H6]; · iexists _; iexact H6
    isplitl [H7]; · iexists _; iexact H7
    isplitl [H8]; · iexists _; iexact H8
    isplitl [HR]; · iexists _; iexact HR
    iexact Hbufs
  isplitl [Hs Hs0 Hs1 Hs2 Hs5 Hsems]
  · isplitl [Hs]; · iexact Hs
    isplitl [Hs0]; · iexact Hs0
    isplitl [Hs1]; · iexact Hs1
    isplitl [Hs2]; · iexact Hs2
    isplitl [Hs5]; · iexact Hs5
    iexact Hsems
  iexists _; isplitr
  swap; · iexact HO
  ipureintro; intro p _
  rcases p.2 with _ | q
  · exact .inr (.inl rfl)
  · exact .inr (.inr (congrArg some (Subsingleton.elim q 0)))
end

end Cert.ScatterIdeal.ScP

end

end
-- ==== Proof.ScLaunch.lean ====
module

public import proofs.«01_k».proof.Proof.ScTask

/-!
The whole call: the arrays dealt to the 32 tasks and joined again, and the program's run from any memory whose
pointers and column numbers are in range.
-/

@[expose] public section

noncomputable section

namespace Cert.ScatterIdeal.ScP

open Cert.ScatterIdeal Cert.ScatterIdeal.Gen
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore (S V T)
open Idealize.ShloMosaic.ShareLeaves (leaf pointsTo_leaves)

variable {F : FTy → Type}

/-- An array of `N` words as a function of every natural number: zero past the end. -/
def total {N : ℕ} (f : Shape.Idx ⟨1, ![N]⟩ → BitVec 32) (k : ℕ) : BitVec 32 :=
  if h : k < N then f (fun a => ⟨k, by obtain rfl : a = 0 := Subsingleton.elim a 0; exact h⟩) else 0#32

theorem total_apply {N : ℕ} (f : Shape.Idx ⟨1, ![N]⟩ → BitVec 32) (j : Shape.Idx ⟨1, ![N]⟩) : f j = total f (j 0).val := by
  have h : (j 0).val < N := (j 0).isLt
  rw [total, dif_pos h]
  congr 1
  funext a
  obtain rfl : a = 0 := Subsingleton.elim a 0
  rfl

theorem total_bound {N B : ℕ} (f : Shape.Idx ⟨1, ![N]⟩ → BitVec 32) (h : ∀ j, (f j).toNat ≤ B) (k : ℕ) : (total f k).toNat ≤ B := by
  unfold total
  split
  · exact h _
  · exact Nat.zero_le _

variable (m : (ℓ : Loc nD τ sig) → Buf (Elt F) ℓ) (ρ : Dev nD → PrngReg)

/-- The pointers, column numbers and words of device `d`, as functions of every natural number. -/
abbrev ipM (d : Dev nD) : ℕ → BitVec 32 := total (N := 257) (m (pLoc d))
abbrev idxM (d : Dev nD) : ℕ → BitVec 32 := total (N := 393216) (m (iLoc d))
abbrev wrdM (d : Dev nD) : ℕ → BitVec 32 := total (N := 98304) (m (wLoc d))

/-- The arrays' entries are in range. -/
def InRange : Prop := ∀ d : Dev nD, (∀ j : S257.Idx, (m (pLoc d) j : BitVec 32).toNat ≤ 393216) ∧ ∀ j : S393216.Idx, (m (iLoc d) j : BitVec 32).toNat ≤ 40959

/-- The share of the arguments a task reads with. -/
abbrev share (c : Fin 2) (i : Fin 16) : PosShare TreeShare := leaf 4 (leaf 1 fullShare c) i

variable [FloatOps F]

/-- The result of the call. -/
def outM (d : Dev nD) : Vec F S320x256x128 .f32 := outVal (F := F) (idxM m d) (wrdM m d) (ipM m d)

/-- What a task holds when the result's rows stand at `f`. -/
def PartRes (d : Dev nD) (f : Vec F S320x256x128 .f32) (c : Fin 2) (i : Fin 16) : sProp (MM F) :=
  TaskRes d c.val i.val (share c i) (m (pLoc d)) (m (iLoc d)) (m (wLoc d)) f

instance (d : Dev nD) (f : Vec F S320x256x128 .f32) (c : Fin 2) (i : Fin 16) : BI.Storable (upEmb : UEmb _ (MM F)) (PartRes m d f c i) := by
  unfold PartRes TaskRes Rows; infer_instance

/-- What a SparseCore holds. -/
def HalfRes (d : Dev nD) (f : Vec F S320x256x128 .f32) (c : Fin 2) : sProp (MM F) := bigSep Finset.univ fun i : Fin 16 => PartRes m d f c i

instance (d : Dev nD) (f : Vec F S320x256x128 .f32) (c : Fin 2) : BI.Storable (upEmb : UEmb _ (MM F)) (HalfRes m d f c) := by
  unfold HalfRes; infer_instance

theorem nCore_zero : (K (F := F)).nCore 0 = 2 := rfl

/-- Each core and each task takes its part of the arrays and brings it back with its rows of the result done. -/
def P : (K (F := F)).Pay (nD := nD) (Val := Elt F) (Name := ℕ) (U := UU) where
  st := fun q d c => match q with | 0 => HalfRes m d (m (oLoc d)) (Fin.cast nCore_zero c)
  dn := fun q d c => match q with | 0 => HalfRes m d (outM m d) (Fin.cast nCore_zero c)
  go := fun q d c i => match q with | 0 => PartRes m d (m (oLoc d)) (Fin.cast nCore_zero c) (Fin.cast nSub_zero i)
  td := fun q d c i => match q with | 0 => PartRes m d (outM m d) (Fin.cast nCore_zero c) (Fin.cast nSub_zero i)
  x := fun _ _ => iprop(emp)

instance P_storable : (P (F := F) m).IsStorable where
  st q d c := match q with
    | 0 => (inferInstance : BI.Storable (upEmb : UEmb _ (MM F)) (HalfRes m d (m (oLoc d)) (Fin.cast nCore_zero c)))
  dn q d c := match q with
    | 0 => (inferInstance : BI.Storable (upEmb : UEmb _ (MM F)) (HalfRes m d (outM m d) (Fin.cast nCore_zero c)))
  go q d c i := match q with
    | 0 => (inferInstance : BI.Storable (upEmb : UEmb _ (MM F)) (PartRes m d (m (oLoc d)) (Fin.cast nCore_zero c) (Fin.cast nSub_zero i)))
  td q d c i := match q with
    | 0 => (inferInstance : BI.Storable (upEmb : UEmb _ (MM F)) (PartRes m d (outM m d) (Fin.cast nCore_zero c) (Fin.cast nSub_zero i)))

/-! ### The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_densify (coordsV c s)
          iV (Memref.isWhole_whole _) wV (Memref.isWhole_whole _) pV (Memref.isWhole_whole _) oV (Memref.isWhole_whole _)
          sP (Memref.isWhole_whole _) sI (Memref.isWhole_whole _) sW (Memref.isWhole_whole _) sR (Memref.isWhole_whole _) cc0_scratch4
          cc0_scoped0 cc0_scoped1 cc0_scoped2 cc0_scoped3 cc0_scoped4 cc0_scoped5 cc0_scoped6) ⟨⟩ c s := rfl

theorem tileObl (hR : InRange m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (idx := idxM m d) (wrd := wrdM m d) (ip := ipM m d) d (coordsV ⟨_, hci.1⟩ ⟨_, hci.2⟩)
    (fun p => Nat.lt_succ_of_le (total_bound _ (hR d).2 p)) (fun r => total_bound _ (hR d).1 r) hF O W hO
    (share (Fin.cast nCore_zero c) (Fin.cast nSub_zero i)) (m (pLoc d)) (m (iLoc d)) (m (wLoc d)) (m (oLoc d))
    (total_apply (N := 393216) (m (iLoc d))) (total_apply (N := 98304) (m (wLoc d))) (total_apply (N := 257) (m (pLoc d)))

/-! ### The arrays dealt and joined -/

/-- The rows of a task's `j`-th row, over all tasks. -/
abbrev rowsK (t : Fin 2 × Fin 16 × Fin 8) : Finset S320x256x128.Idx := rowSet (2 * t.2.1.val + t.1.val + 32 * t.2.2.val)

omit [FloatOps F] in
theorem rows_disjoint : ∀ s ∈ (Finset.univ : Finset (Fin 2 × Fin 16 × Fin 8)), ∀ t ∈ (Finset.univ : Finset (Fin 2 × Fin 16 × Fin 8)),
    s ≠ t → Disjoint (rowsK s) (rowsK t) := by
  rintro ⟨c, i, j⟩ - ⟨c', i', j'⟩ - hne
  refine Finset.disjoint_left.2 fun x hx hx' => hne ?_
  have h1 := (Finset.mem_filter.1 hx).2
  have h2 := (Finset.mem_filter.1 hx').2
  simp only at h1 h2
  have hc := c.isLt; have hi := i.isLt; have hc' := c'.isLt; have hi' := i'.isLt
  have e1 : c = c' := Fin.ext (by omega)
  have e2 : i = i' := Fin.ext (by omega)
  have e3 : j = j' := Fin.ext (by omega)
  rw [e1, e2, e3]

omit [FloatOps F] in
theorem rows_cover : (Finset.univ : Finset (Fin 2 × Fin 16 × Fin 8)).biUnion rowsK = Finset.univ := by
  refine Finset.eq_univ_iff_forall.2 fun x => Finset.mem_biUnion.2 ?_
  have hx : (x 1).val < 256 := (x 1).isLt
  refine ⟨(⟨(x 1).val % 2, by omega⟩, ⟨(x 1).val % 32 / 2, by omega⟩, ⟨(x 1).val / 32, by omega⟩), Finset.mem_univ _, Finset.mem_filter.2 ⟨Finset.mem_univ _, ?_⟩⟩
  show (x 1).val = 2 * ((x 1).val % 32 / 2) + (x 1).val % 2 + 32 * ((x 1).val / 32)
  omega

/-- The result whole is its rows, task by task. -/
theorem out_rows (d : Dev nD) (f : Vec F S320x256x128 .f32) :
    (oLoc d ↦{fullShare} (f : Buf (Elt F) (oLoc d)) : sProp (MM F))
      = bigSep Finset.univ fun c : Fin 2 => bigSep Finset.univ fun i : Fin 16 => Rows d c.val i.val fun _ => f := by
  have h := pointsTo_biUnion (nD := nD) (Ix := HIx 1) (Name := ℕ) (U := UU) (Lvl := ℕ) (ℓ := oLoc d) (q := fullShare) (f := (f : Buf (Elt F) (oLoc d))) (Finset.univ : Finset (Fin 2 × Fin 16 × Fin 8)) rowsK rows_disjoint
  rw [rows_cover, bigSep_univ_prod] at h
  refine h.trans (bigSep_congr fun c _ => ?_)
  rw [bigSep_univ_prod]
  rfl

/-- An argument whole is the tasks' shares of it. -/
theorem arg_shares (ℓ : Loc nD τ sig) (f : Buf (Elt F) ℓ) :
    (ℓ ↦{fullShare} f : sProp (MM F)) = bigSep Finset.univ fun c : Fin 2 => bigSep Finset.univ fun i : Fin 16 => ℓ ↦{share c i} f := by
  refine (pointsTo_leaves Finset.univ f 1 fullShare).trans (bigSep_congr fun c _ => ?_)
  exact pointsTo_leaves Finset.univ f 4 (leaf 1 fullShare c)

/-- The four arrays whole are what the two SparseCores hold. -/
theorem whole_cores (d : Dev nD) (f : Vec F S320x256x128 .f32) :
    (bigSep Finset.univ fun c : Fin 2 => HalfRes m d f c)
      = iprop((pLoc d ↦{fullShare} m (pLoc d)) ∗ (iLoc d ↦{fullShare} m (iLoc d)) ∗ (wLoc d ↦{fullShare} m (wLoc d))
          ∗ (oLoc d ↦{fullShare} (f : Buf (Elt F) (oLoc d)))) := by
  rw [out_rows, arg_shares (pLoc d), arg_shares (iLoc d), arg_shares (wLoc d), ← bigSep_sep', ← bigSep_sep', ← bigSep_sep']
  refine bigSep_congr fun c _ => ?_
  rw [← bigSep_sep', ← bigSep_sep', ← bigSep_sep']
  rfl

theorem vecSplit : (K (F := F)).VecSplit' (P m) 0 := by
  intro d c
  show HalfRes m d (m (oLoc d)) (Fin.cast nCore_zero c) ⊢ |={Set.univ}=> iprop(
      (bigSep Finset.univ fun i : Fin 16 => PartRes m d (m (oLoc d)) (Fin.cast nCore_zero c) i)
      ∗ ((bigSep Finset.univ fun i : Fin 16 => PartRes m d (outM m d) (Fin.cast nCore_zero c) i)
          -∗ HalfRes m d (outM m d) (Fin.cast nCore_zero c)))
  unfold HalfRes
  iintro H; imodintro
  isplitl [H]; · iexact H
  iintro H; iexact H

/-! ### The launch -/

def u₀ : UU := (initOf (K (F := F)).hsCells (K (F := F)).hsToks, 1)

theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem unscopedBufs_eq (d : Dev nD) (W : (b : Ref sig .tc) → Buf (Elt F) ((d.tc : Thread nD τ).loc b)) :
    (unscopedBufs d W : sProp (MM F))
      = iprop((pLoc d ↦{fullShare} W main_arg0) ∗ (iLoc d ↦{fullShare} W main_arg1) ∗ (wLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c)
    = iprop((pLoc d ↦{fullShare} m (pLoc d)) ∗ (iLoc d ↦{fullShare} m (iLoc d)) ∗ (wLoc d ↦{fullShare} m (wLoc d)) ∗ (oLoc d ↦{fullShare} m (oLoc d))) :=
  whole_cores m d (m (oLoc d))

theorem dn0_eq (d : Dev nD) : (bigSep Finset.univ fun c : Fin ((K (F := F)).nCore 0) => (P m).dn 0 d c)
    = iprop((pLoc d ↦{fullShare} m (pLoc d)) ∗ (iLoc d ↦{fullShare} m (iLoc d)) ∗ (wLoc d ↦{fullShare} m (wLoc d))
        ∗ (oLoc d ↦{fullShare} (outM m d : Buf (Elt F) (oLoc d)))) :=
  whole_cores m d (outM m d)

/-- What the run leaves: the arguments as they were, the result at the kernel's value. -/
abbrev FIN (d : Dev nD) : sProp (MM F) :=
  iprop((pLoc d ↦{fullShare} m (pLoc d)) ∗ (iLoc d ↦{fullShare} m (iLoc d)) ∗ (wLoc d ↦{fullShare} m (wLoc d))
    ∗ (oLoc d ↦{fullShare} (outM m d : Buf (Elt F) (oLoc d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st0_eq]
    iexact Ha
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- The final memory of device `d`. -/
def fq (d : Dev nD) (s' : Phys nD τ sig (Elt F)) : Prop :=
  s'.mem.mem (oLoc d) = outM m d ∧ s'.mem.mem (pLoc d) = m (pLoc d) ∧ s'.mem.mem (iLoc d) = m (iLoc d) ∧ s'.mem.mem (wLoc d) = m (wLoc d)

theorem hfin (d : Dev nD) (s' : Phys nD τ sig (Elt F)) : iprop(FIN m d ∗ SI s') ⊢ (⌜fq m d s'⌝ : sProp (MM F)) := by
  iintro ⟨⟨Hp, Hi, Hw, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (SI_pointsTo_agree (st := s') (ℓ := oLoc d) (I := Finset.univ) (q := fullShare) (f := (outM m d : Buf (Elt F) (oLoc d)))) $$ [HSI Ho]
  · isplitl [HSI] <;> iassumption
  icases H with %ho
  ipureintro
  exact ⟨funext fun i => ho i (Finset.mem_univ i), funext fun i => hp i (Finset.mem_univ i), funext fun i => hi i (Finset.mem_univ i),
    funext fun i => hw i (Finset.mem_univ i)⟩

/-- The program's end: every device's result and arguments, and the semaphores at rest. -/
def QC : PUnit × MemSt nD τ sig (Elt F) → Prop := fun r =>
  (∀ c : Dev nD, r.2.mem (oLoc c) = outM m c ∧ r.2.mem (pLoc c) = m (pLoc c) ∧ r.2.mem (iLoc c) = m (iLoc c) ∧ r.2.mem (wLoc c) = m (wLoc c))
    ∧ r.2.sem = fun _ => 0

theorem run_main [∀ e, Nonempty (Elt F e)] (hR : InRange m) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P m) (A := ∅) facts' v₀
    (fun q hq => match q with | 0 => nomatch hq)
    (fun q _ => match q with | 0 => tileObl m hR facts')
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ScatterIdeal.ScP

end

end
-- ==== Proof.ScSum.lean ====
module

public import proofs.«01_k».proof.Proof.ScRow

/-!
The row the kernel leaves, with exact arithmetic: at each place the sum of the stored entries of the row whose column
the place is, in the order they are stored.
-/

@[expose] public section

noncomputable section

namespace Cert.ScatterIdeal.ScP

open Cert.ScatterIdeal Cert.ScatterIdeal.Gen
open Idealize.ShloMosaic

/-- Additions one after another are one sum. -/
theorem st_sum {ι : Type} (hit : ℕ → ι → Bool) (v : ℕ → EReal) (f : ι → EReal) (i : ι) : ∀ n : ℕ,
    st hit (fun n y => y + v n) f n i = f i + ∑ j ∈ (Finset.range n).filter (fun j => hit j i = true), v j
  | 0 => by simp [st]
  | n + 1 => by
    show (if hit n i = true then st hit (fun n y => y + v n) f n i + v n else st hit (fun n y => y + v n) f n i) = _
    rw [st_sum hit v f i n, Finset.range_add_one, Finset.filter_insert]
    by_cases h : hit n i = true
    · rw [if_pos h, if_pos h, Finset.sum_insert (by simp), add_comm (v n), add_assoc]
    · rw [if_neg h, if_neg h]

/-- The number of the entry stored at `p`. -/
def numAt (wrd : ℕ → BitVec 32) (p : ℕ) : EReal :=
  dec (F := Ideal) (wrd (p / 512 * 128 + p % 128)) (BitVec.ofNat 32 (8 * (p % 512 / 128)))

/-- Where the entry at offset `j` of a chunk comes in the chunk's turns, and the other way round. -/
def inTurn (j : ℕ) : ℕ := 512 * (j / 512) + 64 * (j % 128 / 16) + 16 * (j % 512 / 128) + j % 16
def inPos (x : ℕ) : ℕ := 512 * (x / 512) + 128 * (x % 64 / 16) + 16 * (x % 512 / 64) + x % 16

theorem inPos_lt {x : ℕ} (h : x < 2048) : inPos x < 2048 := by unfold inPos; omega
theorem inTurn_lt {j : ℕ} (h : j < 2048) : inTurn j < 2048 := by unfold inTurn; omega

/-- A number below 2048 by its four digits, and the digits again. -/
theorem digits (t u v l : ℕ) (hu : u < 8) (hv : v < 4) (hl : l < 16) :
    (512 * t + 64 * u + 16 * v + l) / 512 = t ∧ (512 * t + 64 * u + 16 * v + l) % 64 / 16 = v
      ∧ (512 * t + 64 * u + 16 * v + l) % 512 / 64 = u ∧ (512 * t + 64 * u + 16 * v + l) % 16 = l := by
  refine ⟨?_, ?_, ?_, ?_⟩ <;> omega

theorem digits' (t u v l : ℕ) (hu : u < 8) (hv : v < 4) (hl : l < 16) :
    (512 * t + 128 * v + 16 * u + l) / 512 = t ∧ (512 * t + 128 * v + 16 * u + l) % 128 / 16 = u
      ∧ (512 * t + 128 * v + 16 * u + l) % 512 / 128 = v ∧ (512 * t + 128 * v + 16 * u + l) % 16 = l
      ∧ (512 * t + 128 * v + 16 * u + l) % 128 = 16 * u + l := by
  refine ⟨?_, ?_, ?_, ?_, ?_⟩ <;> omega

theorem split_turn (x : ℕ) : ∃ t u v l : ℕ, u < 8 ∧ v < 4 ∧ l < 16 ∧ x = 512 * t + 64 * u + 16 * v + l :=
  ⟨x / 512, x % 512 / 64, x % 64 / 16, x % 16, by omega, by omega, by omega, by omega⟩

theorem split_pos (j : ℕ) : ∃ t u v l : ℕ, u < 8 ∧ v < 4 ∧ l < 16 ∧ j = 512 * t + 128 * v + 16 * u + l :=
  ⟨j / 512, j % 128 / 16, j % 512 / 128, j % 16, by omega, by omega, by omega, by omega⟩

theorem inTurn_inPos (x : ℕ) : inTurn (inPos x) = x := by
  obtain ⟨t, u, v, l, hu, hv, hl, rfl⟩ := split_turn x
  unfold inPos
  obtain ⟨e1, e2, e3, e4⟩ := digits t u v l hu hv hl
  rw [e1, e2, e3, e4]
  unfold inTurn
  obtain ⟨f1, f2, f3, f4, -⟩ := digits' t u v l hu hv hl
  rw [f1, f2, f3, f4]

theorem inPos_inTurn (j : ℕ) : inPos (inTurn j) = j := by
  obtain ⟨t, u, v, l, hu, hv, hl, rfl⟩ := split_pos j
  unfold inTurn
  obtain ⟨f1, f2, f3, f4, -⟩ := digits' t u v l hu hv hl
  rw [f1, f2, f3, f4]
  unfold inPos
  obtain ⟨e1, e2, e3, e4⟩ := digits t u v l hu hv hl
  rw [e1, e2, e3, e4]

/-- A chunk starts at a whole tile. -/
theorem off_tile (a k : ℕ) : ∃ o : ℕ, off a k = 512 * o := ⟨min (a / 512 + 4 * k) 764, by unfold off pos0; omega⟩

theorem slotPos_eq (a n : ℕ) : slotPos a n = off a (n / 2048) + inPos (n % 2048) := by
  have e1 : n % 2048 % 64 = n % 64 := by omega
  have e2 : n % 2048 % 512 = n % 512 := by omega
  have e3 : n % 2048 % 16 = n % 16 := by omega
  unfold slotPos inPos
  rw [e1, e2, e3]
  omega

/-- The word and the byte that hold the code of an entry, from its position. -/
theorem slot_place (a n : ℕ) : slotWord a n = slotPos a n / 512 * 128 + slotPos a n % 128 ∧ n % 64 / 16 = slotPos a n % 512 / 128 := by
  have e1 : n % 2048 % 64 = n % 64 := by omega
  have e2 : n % 2048 % 512 = n % 512 := by omega
  have e3 : n % 2048 % 16 = n % 16 := by omega
  rw [slotPos_eq]
  unfold slotWord
  obtain ⟨o, ho⟩ := off_tile a (n / 2048)
  rw [ho, ← e1, ← e2, ← e3]
  generalize n % 2048 = x
  obtain ⟨t, u, v, l, hu, hv, hl, rfl⟩ := split_turn x
  unfold inPos
  obtain ⟨f1, f2, f3, f4⟩ := digits t u v l hu hv hl
  rw [f1, f2, f3, f4]
  have e : 512 * o + (512 * t + 128 * v + 16 * u + l) = 512 * (o + t) + 128 * v + 16 * u + l := by omega
  obtain ⟨g1, g2, g3, g4, g5⟩ := digits' (o + t) u v l hu hv hl
  rw [e, g1, g3, g5]
  refine ⟨by omega, rfl⟩

/-- Entry `p`'s chunk, and its turn among the entries the kernel visits. -/
def chunkOf (a p : ℕ) : ℕ := (p - a / 512 * 512) / 2048
def turn (a p : ℕ) : ℕ := 2048 * chunkOf a p + inTurn (p - off a (chunkOf a p))

theorem off_le_pos0 (a k : ℕ) : off a k ≤ pos0 a k := Nat.min_le_left _ _

/-- An entry that a chunk takes lies in the row, and the chunk is the entry's own. -/
theorem chunk_unique {a b k p : ℕ} (h1 : lo a k ≤ p) (h2 : p < hi a b k) : (a ≤ p ∧ p < b) ∧ chunkOf a p = k := by
  have e1 : pos0 a k ≤ p := Nat.le_trans (Nat.le_max_left _ _) h1
  have e2 : a ≤ p := Nat.le_trans (Nat.le_max_right _ _) h1
  have e3 : p < off a k + 2048 := Nat.lt_of_lt_of_le h2 (Nat.min_le_left _ _)
  have e4 : p < b := Nat.lt_of_lt_of_le h2 (Nat.min_le_right _ _)
  have e5 := off_le_pos0 a k
  refine ⟨⟨e2, e4⟩, ?_⟩
  unfold chunkOf
  unfold pos0 at e1 e5
  generalize a / 512 * 512 = base at *
  omega

/-- An entry of the row is taken by its own chunk. -/
theorem chunk_takes {a b p : ℕ} (hb : b ≤ 393216) (h1 : a ≤ p) (h2 : p < b) :
    chunkOf a p < cnt a b ∧ lo a (chunkOf a p) ≤ p ∧ p < hi a b (chunkOf a p) ∧ off a (chunkOf a p) ≤ p ∧ p - off a (chunkOf a p) < 2048 := by
  have hbase : a / 512 * 512 ≤ a := Nat.div_mul_le_self a 512
  unfold chunkOf cnt lo hi off pos0
  generalize a / 512 * 512 = base at *
  refine ⟨?_, ?_, ?_, ?_, ?_⟩
  · omega
  · exact Nat.max_le.2 ⟨by omega, h1⟩
  · exact Nat.lt_min.2 ⟨by omega, h2⟩
  · exact Nat.le_trans (Nat.min_le_left _ _) (by omega)
  · omega

theorem slot_facts {a b n : ℕ} (h1 : lo a (n / 2048) ≤ slotPos a n) (h2 : slotPos a n < hi a b (n / 2048)) :
    (a ≤ slotPos a n ∧ slotPos a n < b) ∧ turn a (slotPos a n) = n := by
  obtain ⟨h, hk⟩ := chunk_unique h1 h2
  refine ⟨h, ?_⟩
  unfold turn
  rw [hk, slotPos_eq, Nat.add_sub_cancel_left, inTurn_inPos]
  omega

theorem turn_facts {a b p : ℕ} (hb : b ≤ 393216) (h1 : a ≤ p) (h2 : p < b) :
    turn a p < 2048 * cnt a b ∧ lo a (turn a p / 2048) ≤ p ∧ p < hi a b (turn a p / 2048) ∧ slotPos a (turn a p) = p := by
  obtain ⟨c1, c2, c3, c4, c5⟩ := chunk_takes hb h1 h2
  have ht := inTurn_lt c5
  have hq : turn a p / 2048 = chunkOf a p := by unfold turn; omega
  have hr : turn a p % 2048 = inTurn (p - off a (chunkOf a p)) := by unfold turn; omega
  refine ⟨?_, ?_, ?_, ?_⟩
  · unfold turn
    omega
  · rw [hq]; exact c2
  · rw [hq]; exact c3
  · rw [slotPos_eq, hq, hr, inPos_inTurn]
    omega

/-- The row's value at a place, entry by entry as stored. -/
theorem rowVal_ideal (idx wrd ip : ℕ → BitVec 32) (hip : ∀ r, (ip r).toNat ≤ 393216) (r : ℕ) (i : S320x128.Idx) :
    rowVal (F := Ideal) idx wrd ip r i
      = ∑ p ∈ (Finset.range 393216).filter (fun p => ((ip r).toNat ≤ p ∧ p < (ip (r + 1)).toNat)
          ∧ (i 0).val = (idx p).toNat / 128 ∧ (i 1).val = (idx p).toNat % 128), numAt wrd p := by
  have hz : (z0 (F := Ideal) : EReal) = 0 := by
    show Ideal.ofBits .f32 0x00000000#32 = 0
    simp [Ideal.ofBits, Ideal.ieee]
  refine (st_sum (hit idx (ip r).toNat (ip (r + 1)).toNat) (fun n => dec (F := Ideal) (wrd (slotWord (ip r).toNat n)) (slotShift n)) _ i _).trans ?_
  rw [hz, zero_add]
  refine Finset.sum_nbij' (slotPos (ip r).toNat) (turn (ip r).toNat) ?_ ?_ ?_ ?_ ?_
  · intro n hn
    obtain ⟨hn, hh⟩ := Finset.mem_filter.1 hn
    obtain ⟨h1, h2, h3⟩ := of_decide_eq_true hh
    obtain ⟨hr, -⟩ := slot_facts h1 h2
    exact Finset.mem_filter.2 ⟨Finset.mem_range.2 (Nat.lt_of_lt_of_le hr.2 (hip _)), hr, h3⟩
  · intro p hp
    obtain ⟨-, ⟨h1, h2⟩, h3⟩ := Finset.mem_filter.1 hp
    obtain ⟨t1, t2, t3, t4⟩ := turn_facts (hip (r + 1)) h1 h2
    refine Finset.mem_filter.2 ⟨Finset.mem_range.2 t1, decide_eq_true ?_⟩
    rw [t4]
    exact ⟨t2, t3, h3⟩
  · intro n hn
    obtain ⟨-, hh⟩ := Finset.mem_filter.1 hn
    obtain ⟨h1, h2, -⟩ := of_decide_eq_true hh
    exact (slot_facts h1 h2).2
  · intro p hp
    obtain ⟨-, ⟨h1, h2⟩, -⟩ := Finset.mem_filter.1 hp
    exact (turn_facts (hip (r + 1)) h1 h2).2.2.2
  · intro n hn
    unfold numAt slotShift
    rw [← (slot_place (ip r).toNat n).1, ← (slot_place (ip r).toNat n).2]

end Cert.ScatterIdeal.ScP

end

end
-- ==== Proof.ScRef.lean ====
module

public import proofs.«01_k».proof.Defs
public import proofs.«01_k».proof.Proof.Gen.ScatterReferenceIdeal.Run
public import Idealize.ShloMosaic.Lib.Pointwise
public import proofs.«01_k».proof.Proof.ScDecode
public import proofs.«01_k».proof.Proof.ScLaunch
public import proofs.«01_k».proof.Proof.ScSum

/-!
The scatter reference's result at an index: the sum over the stored entries that lie in the row and the column.
-/

@[expose] public section

noncomputable section

namespace Cert.ScatterReferenceIdeal.ScP

open Cert.ScatterReferenceIdeal Cert.ScatterReferenceIdeal.Gen Idealize.ShloMosaic Idealize.ShloMosaic.TcCoe Idealize.SL.Sem

/-- The codes of the stored entries. -/
def codes (w : IVec S98304 32) : IVec S393216 32 :=
  shapeCast _ (andi (Host.shrsi (broadcastInDim S768x4x128 ![0, 1, 2] bcast_S768x1x128_S768x4x128_0_1_2 (shapeCast _ w shapeCasts_S98304_S768x1x128)) (muli (broadcastInDim S768x4x128 ![] bcast_S_S768x4x128 (constantI S_ 32 8#32)) (iotaInDim S768x4x128 32 1))) (broadcastInDim S768x4x128 ![] bcast_S_S768x4x128 (constantI S_ 32 255#32))) shapeCasts_S768x4x128_S393216

/-- Their sizes. -/
def sizes (c : IVec S393216 32) : FVec Ideal S393216 .f32 :=
  mulf (sitofp .f32 (select (cmpi .eq (andi (Host.shrsi c (broadcastInDim S393216 ![] bcast_S_S393216 (constantI S_ 32 3#32))) (broadcastInDim S393216 ![] bcast_S_S393216 (constantI S_ 32 15#32))) (broadcastInDim S393216 ![] bcast_S_S393216 (constantI S_ 32 0#32)))
    (muli (andi c (broadcastInDim S393216 ![] bcast_S_S393216 (constantI S_ 32 7#32))) (broadcastInDim S393216 ![] bcast_S_S393216 (constantI S_ 32 2#32)))
    (Host.shli (addi (andi c (broadcastInDim S393216 ![] bcast_S_S393216 (constantI S_ 32 7#32))) (broadcastInDim S393216 ![] bcast_S_S393216 (constantI S_ 32 8#32))) (andi (Host.shrsi c (broadcastInDim S393216 ![] bcast_S_S393216 (constantI S_ 32 3#32))) (broadcastInDim S393216 ![] bcast_S_S393216 (constantI S_ 32 15#32))))))
    (broadcastInDim S393216 ![] bcast_S_S393216 (constant S_ .f32 0x3A800000#32))

/-- Their values. -/
def values (c : IVec S393216 32) : FVec Ideal S393216 .f32 :=
  select (cmpi .sge c (broadcastInDim S393216 ![] bcast_S_S393216 (constantI S_ 32 128#32))) (Host.negf (sizes c)) (sizes c)

/-- Which entries lie in which row and column. -/
def lies (p : IVec S257 32) (x : IVec S393216 32) : IVec S256x40960x393216 1 :=
  andi (andi (cmpi .sge (iotaInDim S256x40960x393216 32 2) (broadcastInDim S256x40960x393216 ![0, 1, 2] bcast_S256x1x1_S256x40960x393216_0_1_2 (broadcastInDim S256x1x1 ![0] bcast_S256_S256x1x1_0 (extractStridedSlice S256 ![0] p slices_S257_S256_0))))
      (cmpi .slt (iotaInDim S256x40960x393216 32 2) (broadcastInDim S256x40960x393216 ![0, 1, 2] bcast_S256x1x1_S256x40960x393216_0_1_2 (broadcastInDim S256x1x1 ![0] bcast_S256_S256x1x1_0 (extractStridedSlice S256 ![1] p slices_S257_S256_1)))))
    (cmpi .eq (broadcastInDim S256x40960x393216 ![0, 1, 2] bcast_S1x1x393216_S256x40960x393216_0_1_2 (broadcastInDim S1x1x393216 ![2] bcast_S393216_S1x1x393216_2 x)) (iotaInDim S256x40960x393216 32 1))

/-- The terms that are summed. -/
def terms (p : IVec S257 32) (x : IVec S393216 32) (w : IVec S98304 32) : FVec Ideal S256x40960x393216 .f32 :=
  select (lies p x) (broadcastInDim S256x40960x393216 ![0, 1, 2] bcast_S1x1x393216_S256x40960x393216_0_1_2 (broadcastInDim S1x1x393216 ![2] bcast_S393216_S1x1x393216_2 (values (codes w))))
    (broadcastInDim S256x40960x393216 ![] bcast_S_S256x40960x393216 (id (constant S_ .f32 0x00000000#32)))

/-- The reference's result of its three arguments. -/
def refVal (p : IVec S257 32) (x : IVec S393216 32) (w : IVec S98304 32) : FVec Ideal S320x256x128 .f32 :=
  transpose S320x256x128 [1, 0, 2] (shapeCast _ (Host.reduceAdd (terms p x w) (constant S_ .f32 0x00000000#32) reducesTo_S256x40960x393216_S256x40960_d2 h_S_) shapeCasts_S256x40960_S256x320x128) transposes_S256x320x128_S320x256x128_1_0_2

theorem res_eq (m : (ℓ : Loc nD τ sig) → Buf (Elt Ideal) ℓ) (c : Dev nD) :
    Value.res_main_v49 (F := Ideal) m c
      = refVal (m ((c.tc : Thread nD τ).loc main_arg0)) (m ((c.tc : Thread nD τ).loc main_arg1)) (m ((c.tc : Thread nD τ).loc main_arg2)) := rfl

open Cert.ScatterIdeal.ScP (numR sizeR sizeWord numAt dec_eq total total_apply outVal rowVal rowVal_ideal)

/-- An entry's value is the number of its code. -/
theorem values_apply (c : IVec S393216 32) (k : S393216.Idx) : values c k = numR (c k) := by
  pointwise [values, sizes, numR, sizeR, sizeWord]

/-- An entry's value, from the word that holds its code. -/
theorem values_codes (w : IVec S98304 32) (k : Fin 393216) : values (codes w) (ix1 k) = numAt (total (N := 98304) w) k.val := by
  have hk := k.isLt
  have h1 : codes w (ix1 k) = IntOp.andi (IntOp.shrsi ArithUnit.host (w (ix1 ⟨k.val / 512 * 128 + k.val % 128, by omega⟩))
      (IntOp.muli (8#32) (BitVec.ofNat 32 (k.val / 128 % 4)))) 255#32 := by
    pointwise [codes]
  have h2 : k.val / 128 % 4 = k.val % 512 / 128 := by omega
  rw [values_apply, h1, ← dec_eq _ _ (Nat.mod_lt _ (by decide)), h2]
  unfold numAt
  rw [total_apply (N := 98304) w]
  rfl

/-- An entry's term. -/
theorem terms_apply (p : IVec S257 32) (x : IVec S393216 32) (w : IVec S98304 32) (i : S256x40960x393216.Idx) :
    terms p x w i = Scalar.select
      (IntOp.andi
        (IntOp.andi (IntOp.cmpi CmpIPredicate.sge (BitVec.ofNat 32 (i 2).val) (p (ix1 ⟨(i 0).val, Nat.lt_succ_of_lt (i 0).isLt⟩)))
          (IntOp.cmpi CmpIPredicate.slt (BitVec.ofNat 32 (i 2).val) (p (ix1 ⟨1 + (i 0).val, by have h : (i 0).val < 256 := (i 0).isLt; omega⟩))))
        (IntOp.cmpi CmpIPredicate.eq (x (ix1 (i 2))) (BitVec.ofNat 32 (i 1).val)))
      (values (codes w) (ix1 (i 2))) (0 : EReal) := by
  have hz : constant (F := Ideal) S_ .f32 0x00000000#32 ix0 = (0 : EReal) := by
    show Ideal.ofBits .f32 0x00000000#32 = 0
    simp [Ideal.ofBits, Ideal.ieee]
  pointwise [terms, lies]
  rw [id, hz]

/-- The result at an index: the sum of the entries' terms. -/
theorem refVal_apply (p : IVec S257 32) (x : IVec S393216 32) (w : IVec S98304 32) (i : S320x256x128.Idx) :
    refVal p x w i = ∑ k : Fin 393216, terms p x w (ix3 (n0 := 256) (n1 := 40960) (n2 := 393216) (i 1)
      ⟨(i 0).val * 128 + (i 2).val, by have h : (i 0).val < 320 := (i 0).isLt; have h' : (i 2).val < 128 := (i 2).isLt; omega⟩ k) := by
  pointwise [refVal]

theorem bit_and (a b : Bool) : IntOp.andi (BitVec.ofBool a) (BitVec.ofBool b) = BitVec.ofBool (a && b) := by
  cases a <;> cases b <;> rfl

theorem bit_select (b : Bool) (u v : EReal) : Scalar.select (BitVec.ofBool b) u v = if b = true then u else v := by
  cases b <;> rfl

/-- A word below `2 ^ 31` as a signed number. -/
theorem toInt_small {y : BitVec 32} {B : ℕ} (h : y.toNat ≤ B) (hB : B < 2147483648) : y.toInt = (y.toNat : ℤ) := by
  rw [BitVec.toInt_eq_toNat_cond, if_pos (by omega)]

theorem ofNat_toNat {n : ℕ} (h : n < 2147483648) : (BitVec.ofNat 32 n).toNat = n := by
  rw [BitVec.toNat_ofNat]; exact Nat.mod_eq_of_lt (by omega)

/-- Which entries count. -/
theorem mask_eq {k c : ℕ} (hk : k < 393216) (hc : c < 40960) {a b x : BitVec 32} (ha : a.toNat ≤ 393216) (hb : b.toNat ≤ 393216) :
    IntOp.andi (IntOp.andi (IntOp.cmpi CmpIPredicate.sge (BitVec.ofNat 32 k) a) (IntOp.cmpi CmpIPredicate.slt (BitVec.ofNat 32 k) b))
        (IntOp.cmpi CmpIPredicate.eq x (BitVec.ofNat 32 c))
      = BitVec.ofBool (decide ((a.toNat ≤ k ∧ k < b.toNat) ∧ x.toNat = c)) := by
  have e1 : a.sle (BitVec.ofNat 32 k) = decide (a.toNat ≤ k) := by
    rw [BitVec.sle_eq_decide, toInt_small ha (by decide), toInt_small (B := 393216) (by rw [ofNat_toNat (by omega)]; omega) (by decide), ofNat_toNat (by omega)]
    exact decide_eq_decide.2 (by omega)
  have e2 : (BitVec.ofNat 32 k).slt b = decide (k < b.toNat) := by
    rw [BitVec.slt_eq_decide, toInt_small hb (by decide), toInt_small (B := 393216) (by rw [ofNat_toNat (by omega)]; omega) (by decide), ofNat_toNat (by omega)]
    exact decide_eq_decide.2 (by omega)
  have e3 : (x == BitVec.ofNat 32 c) = decide (x.toNat = c) := by
    rw [Bool.eq_iff_iff, beq_iff_eq, decide_eq_true_iff, ← BitVec.toNat_inj, ofNat_toNat (by omega)]
  show IntOp.andi (IntOp.andi (BitVec.ofBool (a.sle (BitVec.ofNat 32 k))) (BitVec.ofBool ((BitVec.ofNat 32 k).slt b))) (BitVec.ofBool (x == BitVec.ofNat 32 c)) = _
  rw [e1, e2, e3, bit_and, bit_and, Bool.decide_and, Bool.decide_and]

/-- With exact arithmetic, and every pointer and column in range, the reference's result is the kernel's. -/
theorem ref_eq (p : IVec S257 32) (x : IVec S393216 32) (w : IVec S98304 32) (hp : ∀ j, (p j).toNat ≤ 393216) (hx : ∀ j, (x j).toNat ≤ 40959) :
    refVal p x w = outVal (F := Ideal) (total (N := 393216) x) (total (N := 98304) w) (total (N := 257) p) := by
  funext i
  have h0 : (i 0).val < 320 := (i 0).isLt
  have h1 : (i 1).val < 256 := (i 1).isLt
  have h2 : (i 2).val < 128 := (i 2).isLt
  refine (refVal_apply p x w i).trans (Eq.trans ?_ (rowVal_ideal (total (N := 393216) x) (total (N := 98304) w) (total (N := 257) p)
    (Cert.ScatterIdeal.ScP.total_bound _ hp) (i 1).val (ix2 (i 0) (i 2))).symm)
  rw [Finset.sum_filter]
  refine Eq.trans ?_ (Fin.sum_univ_eq_sum_range (fun q => if ((total (N := 257) p (i 1).val).toNat ≤ q ∧ q < (total (N := 257) p ((i 1).val + 1)).toNat)
    ∧ (i 0).val = (total (N := 393216) x q).toNat / 128 ∧ (i 2).val = (total (N := 393216) x q).toNat % 128 then numAt (total (N := 98304) w) q else 0) 393216)
  refine Finset.sum_congr rfl fun k _ => ?_
  rw [terms_apply]
  refine (congrArg (fun b => Scalar.select b (values (codes w) (ix1 k)) (0 : EReal)) (mask_eq k.isLt
    (c := (i 0).val * 128 + (i 2).val) (by omega) (hp _) (hp _))).trans ?_
  rw [bit_select, values_codes]
  have ex : x (ix1 k) = total (N := 393216) x k.val := total_apply (N := 393216) x (ix1 k)
  have ea : p (ix1 ⟨(i 1).val, by omega⟩) = total (N := 257) p (i 1).val := total_apply (N := 257) p _
  have eb : p (ix1 ⟨1 + (i 1).val, by omega⟩) = total (N := 257) p ((i 1).val + 1) :=
    (total_apply (N := 257) p _).trans (congrArg (total (N := 257) p) (Nat.add_comm 1 _))
  refine if_congr (decide_eq_true_iff.trans ?_) rfl rfl
  rw [← ex, ← ea, ← eb]
  refine and_congr Iff.rfl ?_
  show (x (ix1 k)).toNat = _ ↔ _
  omega

end Cert.ScatterReferenceIdeal.ScP

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterReferenceIdeal
public import proofs.«01_k».proof.Proof.Gen.ScatterReferenceIdeal.Run
public import proofs.«01_k».proof.Proof.Array
public import proofs.«01_k».proof.Proof.Ref
public import proofs.«01_k».proof.Proof.Finite
public import proofs.«01_k».proof.Proof.ScPre
public import proofs.«01_k».proof.Proof.ScRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's frame: its run read at the arguments; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With exact arithmetic, on a finite matrix, the kernel and the reference end with the same product. -/
theorem algebraic : Cert.algebraic_KernelIdeal_ReferenceIdeal_pre_finite_matrix (hKernelIdeal := Cert.KernelIdeal.Gen.facts)
    (hReferenceIdeal := Cert.ReferenceIdeal.Gen.facts) (hPre_finite_matrix := Cert.Pre_finite_matrix.facts) := by
  haveI := Cert.Pre_finite_matrix.facts
  intro m ρ m' ρ' hpre hagree
  refine ⟨fun c => Cert.KernelIdeal.Spmm.prodAt (Cert.KernelIdeal.Spmm.argX m c) (Cert.KernelIdeal.Spmm.argA m c) (Cert.KernelIdeal.Spmm.argS m c), ?_, ?_⟩
  · exact (θ_run Cert.KernelIdeal.defs _ _).mono (fun _ h c => ⟨(h c).1.trans (Cert.KernelIdeal.Spmm.final m c fun i =>
        Cert.Pre_finite_matrix.fin_of_fn _ _ _ (hpre c) i), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact funext fun i => Cert.ReferenceIdeal.Spmm.refVal_apply _ _ _ i

/-! ### The SparseCore call -/

/-- With the pointers and columns in range the SparseCore call ends, with the bits the chip computes, its arguments as they were. -/
theorem frame_scatter : Cert.quiescent_Scatter (hScatter := Cert.Scatter.Gen.facts) (hPre_stored_entries := Cert.Pre_stored_entries.facts) := by
  haveI := Cert.Pre_stored_entries.facts
  intro m ρ hpre
  exact (θ_run Cert.ScatterIdeal.defs _ _).mono (fun _ h => ⟨fun c => (h.1 c).2, h.2⟩)
    (Cert.ScatterIdeal.ScP.run_main (F := Bits) m ρ fun c => Cert.Pre_stored_entries.range_of_fn _ _ _ (hpre c))

/-- The same with exact arithmetic. -/
theorem frame_scatter_ideal : Cert.quiescent_ScatterIdeal (hScatterIdeal := Cert.ScatterIdeal.Gen.facts)
    (hPre_stored_entries := Cert.Pre_stored_entries.facts) := by
  haveI := Cert.Pre_stored_entries.facts
  intro m ρ hpre
  exact (θ_run Cert.ScatterIdeal.defs _ _).mono (fun _ h => ⟨fun c => (h.1 c).2, h.2⟩)
    (Cert.ScatterIdeal.ScP.run_main (F := Ideal) m ρ fun c => Cert.Pre_stored_entries.range_of_fn _ _ _ (hpre c))

/-- The scatter reference's frame. -/
theorem frame_scatter_ref : Cert.quiescent_ScatterReferenceIdeal (hScatterReferenceIdeal := Cert.ScatterReferenceIdeal.Gen.facts) := fun m ρ _ =>
  (θ_run Cert.ScatterReferenceIdeal.defs _ _).mono (fun r h => ⟨fun c => (h c).2, sem_eq_zero_of_no_sems (by decide) r.2⟩)
    (Cert.ScatterReferenceIdeal.Value.run (F := Ideal) m ρ)

/-- With exact arithmetic, pointers and columns in range, the SparseCore call and its reference end with the same matrix. -/
theorem algebraic_scatter : Cert.algebraic_ScatterIdeal_ScatterReferenceIdeal (hScatterIdeal := Cert.ScatterIdeal.Gen.facts)
    (hScatterReferenceIdeal := Cert.ScatterReferenceIdeal.Gen.facts) (hPre_stored_entries := Cert.Pre_stored_entries.facts) := by
  haveI := Cert.Pre_stored_entries.facts
  intro m ρ m' ρ' hpre hagree
  have hR : Cert.ScatterIdeal.ScP.InRange m := fun c => Cert.Pre_stored_entries.range_of_fn _ _ _ (hpre c)
  refine ⟨fun c => Cert.ScatterIdeal.ScP.outM m c, ?_, ?_⟩
  · exact (θ_run Cert.ScatterIdeal.defs _ _).mono (fun _ h c => h.1 c) (Cert.ScatterIdeal.ScP.run_main (F := Ideal) m ρ hR)
  · refine (θ_run Cert.ScatterReferenceIdeal.defs _ _).mono (fun _ h c => ⟨(h c).1.trans ?_, (h c).2⟩)
      (Cert.ScatterReferenceIdeal.Value.run (F := Ideal) m' ρ')
    refine (Cert.ScatterReferenceIdeal.ScP.res_eq m' c).trans ?_
    rw [(hagree c).1, (hagree c).2.1, (hagree c).2.2]
    exact Cert.ScatterReferenceIdeal.ScP.ref_eq _ _ _ (hR c).1 (hR c).2

theorem claim : Cert.Claim := ⟨Cert.Kernel.Gen.facts, Cert.KernelIdeal.Gen.facts, Cert.ReferenceIdeal.Gen.facts, Cert.Scatter.Gen.facts,
  Cert.ScatterIdeal.Gen.facts, Cert.ScatterReferenceIdeal.Gen.facts, Cert.Pre_finite_matrix.facts, Cert.Pre_stored_entries.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  frame_scatter,
  frame_scatter_ideal,
  frame_scatter_ref,
  fun m ρ _ => frame_scatter_ref m ρ trivial,
  trivial,
  algebraic,
  trivial,
  algebraic_scatter⟩

end Cert.Proof

end
